-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_top_KernelIdeal [hPre_distinct_top_KernelIdeal : Cert.Pre_distinct_top_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_top_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_top_ReferenceIdeal [hPre_distinct_top_ReferenceIdeal : Cert.Pre_distinct_top_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_top_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_distinct_top_KernelIdeal [hKernelIdeal : Cert.KernelIdeal.Facts] [hPre_distinct_top_KernelIdeal : Cert.Pre_distinct_top_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_top_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_distinct_top_ReferenceIdeal [hReferenceIdeal : Cert.ReferenceIdeal.Facts] [hPre_distinct_top_ReferenceIdeal : Cert.Pre_distinct_top_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_top_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_distinct_top_KernelIdeal [hKernelIdeal : Cert.KernelIdeal.Facts] [hReferenceIdeal : Cert.ReferenceIdeal.Facts] [hPre_distinct_top_KernelIdeal : Cert.Pre_distinct_top_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_top_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 4, 4] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_distinct_top_KernelIdeal : Cert.Pre_distinct_top_KernelIdeal.Facts) (hPre_distinct_top_ReferenceIdeal : Cert.Pre_distinct_top_ReferenceIdeal.Facts),
    quiescent_Kernel (hKernel := hKernel)
    ∧ quiescent_KernelIdeal (hKernelIdeal := hKernelIdeal)
    ∧ quiescent_KernelIdeal_pre_distinct_top_KernelIdeal (hKernelIdeal := hKernelIdeal) (hPre_distinct_top_KernelIdeal := hPre_distinct_top_KernelIdeal)
    ∧ quiescent_ReferenceIdeal (hReferenceIdeal := hReferenceIdeal)
    ∧ quiescent_ReferenceIdeal_pre_distinct_top_ReferenceIdeal (hReferenceIdeal := hReferenceIdeal) (hPre_distinct_top_ReferenceIdeal := hPre_distinct_top_ReferenceIdeal)
    ∧ preserves_Kernel_KernelIdeal
    ∧ algebraic_KernelIdeal_ReferenceIdeal_pre_distinct_top_KernelIdeal (hKernelIdeal := hKernelIdeal) (hReferenceIdeal := hReferenceIdeal) (hPre_distinct_top_KernelIdeal := hPre_distinct_top_KernelIdeal)
-- ==== Pre_distinct_top_KernelIdeal.lean ====
abbrev S512x4096 : Shape := ⟨2, ![512, 4096]⟩
abbrev S512x16 : Shape := ⟨2, ![512, 16]⟩
abbrev S512x15 : Shape := ⟨2, ![512, 15]⟩
abbrev S_ : Shape := ⟨0, ![]⟩

class Facts : Prop where
  slices_S512x4096_S512x16_0_4080 : S512x4096.Slices ![0, 4080] S512x16
  slices_S512x16_S512x15_0_0 : S512x16.Slices ![0, 0] S512x15
  slices_S512x16_S512x15_0_1 : S512x16.Slices ![0, 1] S512x15
  reducesTo_S512x15_S_d0_1 : S512x15.ReducesTo [0, 1] S_
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x4096 .f32) : FVec F S512x4096 .f32 :=
  let v0 : FVec F S512x4096 .f32 := (fun x => Host.sort S512x4096 1 comparator_f32_d1 x) arg0
  v0

def fn {F : FTy → Type} [FloatOps F] (main_arg0 : FVec F S512x4096 .f32) : IVec S_ 1 :=
  let main_v0 : FVec F S512x4096 .f32 := fn_sort (F := F) main_arg0
  let main_v1 : FVec F S512x16 .f32 := (extractStridedSlice S512x16 ![0, 4080] · slices_S512x4096_S512x16_0_4080) main_v0
  let main_v2 : FVec F S512x15 .f32 := (extractStridedSlice S512x15 ![0, 0] · slices_S512x16_S512x15_0_0) main_v1
  let main_v3 : FVec F S512x15 .f32 := (extractStridedSlice S512x15 ![0, 1] · slices_S512x16_S512x15_0_1) main_v1
  let main_v4 : IVec S512x15 1 := cmpf .olt main_v2 main_v3
  let main_c : IVec S_ 1 := constantI S_ 1 1#1
  let main_v5 : IVec S_ 1 := (fun x v => Host.reduce IntOp.andi x v reducesTo_S512x15_S_d0_1 h_S_) main_v4 main_c
  main_v5
-- ==== Pre_distinct_top_ReferenceIdeal.lean ====
abbrev S512x8192 : Shape := ⟨2, ![512, 8192]⟩
abbrev S512x16 : Shape := ⟨2, ![512, 16]⟩
abbrev S512x15 : Shape := ⟨2, ![512, 15]⟩
abbrev S_ : Shape := ⟨0, ![]⟩

class Facts : Prop where
  slices_S512x8192_S512x16_0_8176 : S512x8192.Slices ![0, 8176] S512x16
  slices_S512x16_S512x15_0_0 : S512x16.Slices ![0, 0] S512x15
  slices_S512x16_S512x15_0_1 : S512x16.Slices ![0, 1] S512x15
  reducesTo_S512x15_S_d0_1 : S512x15.ReducesTo [0, 1] S_
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x8192 .f32) : FVec F S512x8192 .f32 :=
  let v0 : FVec F S512x8192 .f32 := (fun x => Host.sort S512x8192 1 comparator_f32_d1 x) arg0
  v0

def fn {F : FTy → Type} [FloatOps F] (main_arg0 : FVec F S512x8192 .f32) : IVec S_ 1 :=
  let main_v0 : FVec F S512x8192 .f32 := fn_sort (F := F) main_arg0
  let main_v1 : FVec F S512x16 .f32 := (extractStridedSlice S512x16 ![0, 8176] · slices_S512x8192_S512x16_0_8176) main_v0
  let main_v2 : FVec F S512x15 .f32 := (extractStridedSlice S512x15 ![0, 0] · slices_S512x16_S512x15_0_0) main_v1
  let main_v3 : FVec F S512x15 .f32 := (extractStridedSlice S512x15 ![0, 1] · slices_S512x16_S512x15_0_1) main_v1
  let main_v4 : IVec S512x15 1 := cmpf .olt main_v2 main_v3
  let main_c : IVec S_ 1 := constantI S_ 1 1#1
  let main_v5 : IVec S_ 1 := (fun x v => Host.reduce IntOp.andi x v reducesTo_S512x15_S_d0_1 h_S_) main_v4 main_c
  main_v5
-- ==== Kernel.lean ====
abbrev S512x4096 : Shape := ⟨2, ![512, 4096]⟩
abbrev S512x16 : Shape := ⟨2, ![512, 16]⟩
abbrev S2x512x16 : Shape := ⟨3, ![2, 512, 16]⟩
abbrev S_ : Shape := ⟨0, ![]⟩
abbrev S512 : Shape := ⟨1, ![512]⟩
abbrev S512x1 : Shape := ⟨2, ![512, 1]⟩
abbrev S1x512x16 : Shape := ⟨3, ![1, 512, 16]⟩
abbrev S512x32 : Shape := ⟨2, ![512, 32]⟩

abbrev nBuf : Space → Nat
  | .hbm => 2
  | .vmem => 3
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S2x512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 2 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_45 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_44 : BitVec 32 := 16#32
  let v115 : BitVec 32 := Scalar.muli v9 c16_i32_44
  let v116 : BitVec 32 := Scalar.addi c0_i32_45 v115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v117 : BitVec 32 := Scalar.muli v5 c4_i32_46
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v119 : BitVec 32 := Scalar.muli v8 c1_i32_47
  let v120 : BitVec 32 := Scalar.addi v118 v119
  v120.toNat
def k0_dev3 (d0 : Dev nD) : Nat :=
  let c0_i32_138_r0 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_137_r0 : BitVec 32 := 16#32
  let v330_r0 : BitVec 32 := Scalar.muli v9 c16_i32_137_r0
  let v331_r0 : BitVec 32 := Scalar.addi c0_i32_138_r0 v330_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139_r0 : BitVec 32 := 4#32
  let v332_r0 : BitVec 32 := Scalar.muli v5 c4_i32_139_r0
  let v333_r0 : BitVec 32 := Scalar.addi v331_r0 v332_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140_r0 : BitVec 32 := 1#32
  let v334_r0 : BitVec 32 := Scalar.muli v8 c1_i32_140_r0
  let v335_r0 : BitVec 32 := Scalar.addi v333_r0 v334_r0
  v335_r0.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .i32⟩
  | .hbm, ⟨3, _⟩ => ⟨S512x8192, .f32⟩
  | .hbm, ⟨4, _⟩ => ⟨S512x8192, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Slots.lean ====
/-
# The exchange buffer's two slots, and what each device computes

The kernel's scratch buffer holds two slots of 512 rows by 16 values. A device stores its own sixteen largest values into
slot A and sends them into slot B of its partner's buffer. This module names the two slots, says which elements each one
takes, and reads and writes them: a slot's contents are told by a function that ignores the slot's number (`comm w`), so
that a transfer from slot A to slot B leaves the same function in force.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen
open Idealize.ShloMosaic
open Idealize.ShloMosaic.TcCoe

variable {F : FTy → Type} [FloatOps F]

/-! ## What a device computes -/

/-- The sixteen values of each row a device keeps of its block `x`: the row's maximum, then fifteen times the maximum of
    the elements below the value before. -/
def localTop (x : FVec F S512x4096 .f32) : FVec F S1x512x16 .f32 :=
  let c : F .f32 := Scalar.ofBits .f32 0xFF800000#32
  k0_pay14 (k0_pay1 x) (k0_pay2 x) (k0_pay3 x) (k0_pay4 x) (k0_pay6 (k0_pay1 x) (k0_pay5 x) c) (k0_pay7 (k0_pay1 x) (k0_pay5 x) c)
    (k0_pay8 (k0_pay1 x) (k0_pay5 x) c) (k0_pay9 (k0_pay1 x) (k0_pay5 x) c) (k0_pay10 (k0_pay1 x) (k0_pay5 x) c)
    (k0_pay11 (k0_pay1 x) (k0_pay5 x) c) (k0_pay12 (k0_pay1 x) (k0_pay5 x) c) (k0_pay13 (k0_pay1 x) (k0_pay5 x) c)

/-- The sixteen largest of two such lists `a` and `b` laid side by side: sixteen times the maximum, the first place that
    attains it struck out after each. -/
def merged (a b : FVec F S1x512x16 .f32) : FVec F S512x16 .f32 :=
  let v144 : IVec S512x32 32 := iota .tc S512x32 32 [1] iota_S512x32_d1_w32
  let v192 := k0_pay24 (k0_pay15 a b) v144 (k0_pay17 a b)
  let v228 := k0_pay30 v144 v192
  let v238 := k0_pay32 v144 v192
  k0_pay42 v144 (k0_pay16 a b) (k0_pay19 (k0_pay15 a b) v144 (k0_pay17 a b)) (k0_pay21 (k0_pay15 a b) v144 (k0_pay17 a b))
    (k0_pay23 (k0_pay15 a b) v144 (k0_pay17 a b)) (k0_pay25 v192) (k0_pay27 v144 v192) (k0_pay29 v144 v192) (k0_pay31 v144 v192)
    (k0_pay34 v228 v238) (k0_pay36 v144 v228 v238) (k0_pay38 v144 v228 v238) (k0_pay39 v144 v228 v238) (k0_pay40 v144 v228 v238)
    (k0_pay41 v144 v228 v238)

/-! ## The slots -/

/-- The exchange buffer, whole. -/
abbrev scr : Memref sig .tc .vmem S2x512x16 .f32 := Memref.whole cc0_scratch0
/-- Slot A: the first of the two, where a device keeps its own values. -/
abbrev rectA : Rect S2x512x16 := Rect.unit (s := S2x512x16) ![0, 0, 0] S1x512x16.size inb_S2x512x16_S1x512x16_0_0_0
/-- Slot B: the second, where the partner's values land. -/
abbrev rectB : Rect S2x512x16 := Rect.unit (s := S2x512x16) ![1, 0, 0] S1x512x16.size inb_S2x512x16_S1x512x16_1_0_0
/-- Slot A as the transfers name it, the leading axis of size one dropped. -/
abbrev slotA : Memref sig .tc .vmem S512x16 .f32 := (scr.slice rectA (fun _ => rfl)).squeeze S512x16 squeezes_S1x512x16_S512x16
/-- Slot B likewise. -/
abbrev slotB : Memref sig .tc .vmem S512x16 .f32 := (scr.slice rectB (fun _ => rfl)).squeeze S512x16 squeezes_S1x512x16_S512x16

/-- A place of the exchange buffer, its slot forgotten. -/
def low (i : S2x512x16.Idx) : S1x512x16.Idx := fun
  | 0 => (0 : Fin 1)
  | 1 => i 1
  | 2 => i 2

/-- The buffer's contents that hold the list `w` in each slot. -/
def comm (w : FVec F S1x512x16 .f32) : cc0_scratch0.ty.Contents (Elt F) := fun i => w (low i)

theorem low_rectA (j : S1x512x16.Idx) : low (rectA.emb j) = j := by
  funext d
  fin_cases d
  · exact Fin.ext (by have := (j 0).isLt; show 0 = (j 0).val; change (j 0).val < 1 at this; omega)
  · exact Fin.ext (by show 0 + 1 * (j 1).val = (j 1).val; omega)
  · exact Fin.ext (by show 0 + 1 * (j 2).val = (j 2).val; omega)

theorem low_rectB (j : S1x512x16.Idx) : low (rectB.emb j) = j := by
  funext d
  fin_cases d
  · exact Fin.ext (by have := (j 0).isLt; show 0 = (j 0).val; change (j 0).val < 1 at this; omega)
  · exact Fin.ext (by show 0 + 1 * (j 1).val = (j 1).val; omega)
  · exact Fin.ext (by show 0 + 1 * (j 2).val = (j 2).val; omega)

theorem setA : (slotA.view.set : Finset S2x512x16.Idx) = rectA.set := by
  show ((scr.view.slice rectA).reshape S512x16 _).set = _
  rw [View.set_reshape]; exact View.set_slice_whole _ _
theorem setB : (slotB.view.set : Finset S2x512x16.Idx) = rectB.set := by
  show ((scr.view.slice rectB).reshape S512x16 _).set = _
  rw [View.set_reshape]; exact View.set_slice_whole _ _

theorem mem_rectA (i : S2x512x16.Idx) : i ∈ rectA.set ↔ (i 0).val = 0 := by
  rw [Rect.mem_set_unit]
  constructor
  · intro h; have := (h 0).2; change (i 0).val < 0 + 1 at this; omega
  · intro h a
    fin_cases a
    · exact ⟨Nat.zero_le _, by show (i 0).val < 0 + 1; omega⟩
    · exact ⟨Nat.zero_le _, by have := (i 1).isLt; change (i 1).val < 512 at this; show (i 1).val < 0 + 512; omega⟩
    · exact ⟨Nat.zero_le _, by have := (i 2).isLt; change (i 2).val < 16 at this; show (i 2).val < 0 + 16; omega⟩

theorem mem_rectB (i : S2x512x16.Idx) : i ∈ rectB.set ↔ (i 0).val = 1 := by
  rw [Rect.mem_set_unit]
  constructor
  · intro h; have h1 := (h 0).1; have h2 := (h 0).2; change 1 ≤ (i 0).val at h1; change (i 0).val < 1 + 1 at h2; omega
  · intro h a
    fin_cases a
    · exact ⟨by show 1 ≤ (i 0).val; omega, by show (i 0).val < 1 + 1; omega⟩
    · exact ⟨Nat.zero_le _, by have := (i 1).isLt; change (i 1).val < 512 at this; show (i 1).val < 0 + 512; omega⟩
    · exact ⟨Nat.zero_le _, by have := (i 2).isLt; change (i 2).val < 16 at this; show (i 2).val < 0 + 16; omega⟩

/-- The two slots have no element in common, -/
theorem slots_disjoint : Disjoint (slotA.view.set : Finset S2x512x16.Idx) slotB.view.set := by
  rw [setA, setB, Finset.disjoint_left]
  intro i ha hb
  have h1 := (mem_rectA i).mp ha
  have h2 := (mem_rectB i).mp hb
  omega

/-- and are the whole buffer. -/
theorem slots_union : (slotA.view.set : Finset S2x512x16.Idx) ∪ slotB.view.set = Finset.univ := by
  rw [setA, setB]
  refine Finset.eq_univ_of_forall fun i => ?_
  rw [Finset.mem_union, mem_rectA, mem_rectB]
  have := (i 0).isLt
  change (i 0).val < 2 at this
  omega

/-- Storing the list `w` in slot A leaves `comm w` there. -/
theorem store_A (f : cc0_scratch0.ty.Contents (Elt F)) (w : FVec F S1x512x16 .f32) :
    ∀ i ∈ (slotA.view.set : Finset S2x512x16.Idx), (scr.access rectA).write (Elt F) f w Finset.univ i = comm w i := by
  intro i hi
  obtain ⟨j, -, rfl⟩ := Finset.mem_map.mp (show i ∈ (scr.access rectA).set by
    rw [show (scr.access rectA).set = rectA.set from View.set_slice_whole _ _]; rwa [setA] at hi)
  rw [View.write_emb_of_mem _ _ (Finset.mem_univ j)]
  show w j = w (low (rectA.emb j))
  rw [low_rectA]

/-- Loading slot A, where `comm w` is, gives `w`; -/
theorem load_A (w : FVec F S1x512x16 .f32) : (scr.access rectA).read (Elt F) (comm w) = w :=
  funext fun j => congrArg w (low_rectA j)
/-- loading slot B likewise. -/
theorem load_B (w : FVec F S1x512x16 .f32) : (scr.access rectB).read (Elt F) (comm w) = w :=
  funext fun j => congrArg w (low_rectB j)

/-- The transfer of slot A holding `comm w` into slot B leaves `comm w` there. -/
theorem transfer (f : cc0_scratch0.ty.Contents (Elt F)) (w : FVec F S1x512x16 .f32) :
    ∀ i ∈ (slotB.view.set : Finset S2x512x16.Idx),
      slotB.view.write (Elt F) f (slotA.view.read (Elt F) (comm w)) Finset.univ i = comm w i := by
  intro i hi
  obtain ⟨j, -, rfl⟩ := Finset.mem_map.mp (show i ∈ slotB.view.set from hi)
  rw [View.write_emb_of_mem _ _ (Finset.mem_univ j)]
  exact congrArg w ((low_rectA (Shape.reshapeEquiv squeezes_S1x512x16_S512x16.numel_eq j)).trans
    (low_rectB (Shape.reshapeEquiv squeezes_S1x512x16_S512x16.numel_eq j)).symm)

end Cert.TopK

end
-- ==== Proof.Protocol.lean ====
/-
# The exchange protocol

The mesh is 2 × 4 × 4; device `c`'s partner is the device at the other coordinate of the first axis. Each device
takes part in four events, one on each of four semaphores:

* event 0, the entry barrier: the partner signals it, and with the signal lends slot B of its exchange buffer;
* event 1, the departure: the device's transfer has read slot A, which the device gets back;
* event 2, the arrival: the partner's transfer has written slot B, which the device gets back holding the partner's list;
* event 3, the exit barrier: the partner signals it, and nothing comes with it.

Every semaphore is used in one round and by one payer, so the schedule has one duty per device and event. What a device
waits for while it still owes something is ordered by levels: 0 for the departures and the staging, 1 for the entry
barrier, 2 for the arrivals, 3 for the exit barrier.
-/
module

public import proofs.«01_k».proof.Proof.Slots

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch: any contents, every counter zero, any generator registers. -/
def start₀ : MemSt nD τ sig (Elt F) := ⟨m, fun _ => 0, ρ⟩

/-! ## Partners -/

set_option backward.proofsInPublic true in
/-- The device at the other coordinate of the first mesh axis. -/
def partner (c : Dev nD) : Dev nD := ⟨(c.val + 16) % 32, Nat.mod_lt _ (by decide)⟩

theorem partner_partner (c : Dev nD) : partner (partner c) = c := by revert c; decide
/-- Partners, as a permutation of the devices. -/
def swap : Dev nD ≃ Dev nD := ⟨partner, partner, partner_partner, partner_partner⟩

/-- The kernel's three computed addresses — of the entry signal, of the transfer, of the exit signal — are the partner. -/
theorem addr1 (c : Dev nD) : (⟨k0_dev1 c, k0_dev1_lt c⟩ : Dev nD) = partner c := Fin.ext ((k0_dev1_eq c).trans (by revert c; decide))
theorem addr2 (c : Dev nD) : (⟨k0_dev2 c, k0_dev2_lt c⟩ : Dev nD) = partner c := Fin.ext ((k0_dev2_eq c).trans (by revert c; decide))
theorem addr3 (c : Dev nD) : (⟨k0_dev3 c, k0_dev3_lt c⟩ : Dev nD) = partner c := Fin.ext ((k0_dev3_eq c).trans (by revert c; decide))

/-! ## Events and their semaphores -/

/-- The semaphore of each event: the runtime's barrier, the transfer's send and receive semaphores, the scoped barrier. -/
abbrev sm : Fin 4 → SemLoc sig := fun
  | 0 => .reg (SemArray.scalar (sig.barrier 0 rfl) : Sems sig S_).sem
  | 1 => .dma cc0_scratch1.sem
  | 2 => .dma cc0_scratch2.sem
  | 3 => .reg cc0_scoped0.sem
/-- Event `ck.2` at device `ck.1`. -/
abbrev at_ (ck : Dev nD × Fin 4) : GSem nD τ sig := ((ck.1 : Thread nD τ), sm ck.2)

theorem sm_injective : Function.Injective sm := by decide
theorem at_injective : Function.Injective at_ := by
  rintro ⟨c, k⟩ ⟨c', k'⟩ h
  have h1 : c = c' := congrArg (fun g : GSem nD τ sig => g.1.1) h
  have h2 : k = k' := sm_injective (congrArg Prod.snd h)
  subst h1 h2; rfl

/-- The event a semaphore belongs to, if any. -/
def event (s : SemLoc sig) : Option (Fin 4) :=
  if s = sm 0 then some 0 else if s = sm 1 then some 1 else if s = sm 2 then some 2 else if s = sm 3 then some 3 else none
theorem event_sm (k : Fin 4) : event (sm k) = some k := by revert k; decide

/-- The credit of one slot's transfer. -/
abbrev N : ℕ := slotB.view.dmaCredit
theorem N_pos : 0 < N := View.dmaCredit_pos _ (by decide)

/-- What each event counts to. -/
def amt : Fin 4 → ℕ := fun | 0 => 1 | 1 => N | 2 => N | 3 => 1
theorem amt_pos (k : Fin 4) : 0 < amt k := by
  fin_cases k
  · exact Nat.one_pos
  · exact N_pos
  · exact N_pos
  · exact Nat.one_pos

/-! ## What the events hand over -/

/-- Device `c`'s block of the operand, as its staging buffer holds it; -/
def block (c : Dev nD) : (cc0_stg0_0 : Ref sig .tc).ty.Contents (Elt F) :=
  (win0_0.blk (0 : Fin 1)).view.read (Elt F) ((start₀ m ρ).mem ((c : Thread nD τ).loc main_arg0))
/-- the sixteen values per row it keeps of it; -/
def mine (c : Dev nD) : FVec F S1x512x16 .f32 := localTop (block m ρ c)
/-- and what it computes of its own and its partner's. -/
def result (c : Dev nD) : (cc0_stg1_0 : Ref sig .tc).ty.Contents (Elt F) := merged (mine m ρ c) (mine m ρ (partner c))

/-- Slot A of device `c` with contents `f`. -/
def ptsA (c : Dev nD) (f : Buf (Elt F) (scr.view.loc (c : Thread nD τ))) : sProp 𝕄 :=
  scr.view.loc (c : Thread nD τ) ↦[slotA.view.set]{fullShare} f
/-- Slot B of device `c` with contents `f`. -/
def ptsB (c : Dev nD) (f : Buf (Elt F) (scr.view.loc (c : Thread nD τ))) : sProp 𝕄 :=
  scr.view.loc (c : Thread nD τ) ↦[slotB.view.set]{fullShare} f

instance ptsA_storable (c : Dev nD) (f) : BI.Storable (upEmb : UEmb _ 𝕄) (ptsA (F := F) c f) := by unfold ptsA; infer_instance
instance ptsB_storable (c : Dev nD) (f) : BI.Storable (upEmb : UEmb _ 𝕄) (ptsB (F := F) c f) := by unfold ptsB; infer_instance

/-- The exchange buffer is its two slots. -/
theorem slots_split (c : Dev nD) (f : Buf (Elt F) ((c : Thread nD τ).loc cc0_scratch0)) :
    ((((c : Thread nD τ).loc cc0_scratch0) ↦{fullShare} f : sProp 𝕄)) ⊢ iprop(ptsA c f ∗ ptsB c f) := by
  unfold ptsA ptsB
  refine (Entails.of_eq ?_).trans (pointsTo_union (ℓ := scr.view.loc (c : Thread nD τ)) slots_disjoint).1
  exact congrArg (fun S => (scr.view.loc (c : Thread nD τ) ↦[S]{fullShare} f : sProp 𝕄)) slots_union.symm
/-- The two slots, at whatever contents each, are the exchange buffer. -/
theorem slots_join (c : Dev nD) (f g : Buf (Elt F) ((c : Thread nD τ).loc cc0_scratch0)) :
    iprop(ptsA c f ∗ ptsB c g) ⊢ (∃ h : Buf (Elt F) ((c : Thread nD τ).loc cc0_scratch0), ((c : Thread nD τ).loc cc0_scratch0) ↦{fullShare} h : sProp 𝕄) := by
  unfold ptsA ptsB
  refine (pointsTo_join (ℓ := scr.view.loc (c : Thread nD τ)) slots_disjoint).trans ?_
  rw [show (slotA.view.set ∪ slotB.view.set : Finset (Idx (scr.view.loc (c : Thread nD τ)))) = Finset.univ from slots_union]
  iintro H
  iexists _
  iexact H

/-- What comes with event `k` at device `c`. -/
def gift (c : Dev nD) : Fin 4 → sProp 𝕄 := fun
  | 0 => iprop(∃ f, ptsB (partner c) f)
  | 1 => ptsA c (comm (mine m ρ c))
  | 2 => ptsB c (comm (mine m ρ (partner c)))
  | 3 => iprop(emp)

instance gift_storable (c : Dev nD) (k : Fin 4) : BI.Storable (upEmb : UEmb _ 𝕄) (gift (F := F) m ρ c k) := by
  fin_cases k <;> (dsimp only [gift]; infer_instance)

/-! ## The schedule -/

/-- One round, one duty per event. -/
def sched : Rounds.Schedule (GSem nD τ sig) Unit 𝕄 where
  duties g r := if r = 0 ∧ g.1.2 = .tc ∧ (event g.2).isSome then {()} else ∅
  unitless _ := False
  amount g _ _ := (event g.2).elim 1 amt
  payload g _ _ := (event g.2).elim iprop(emp) (gift m ρ g.1.1)
  amount_pos g _ _ _ := by
    cases event g.2 with
    | none => exact Nat.one_pos
    | some k => exact amt_pos k

instance sched_storable (g : GSem nD τ sig) (r : ℕ) (d : Unit) : BI.Storable (upEmb : UEmb _ 𝕄) ((sched (F := F) m ρ).payload g r d) := by
  show BI.Storable upEmb ((event g.2).elim iprop(emp) (gift m ρ g.1.1))
  cases event g.2 with
  | none => exact (inferInstance : BI.Storable upEmb (iprop(emp) : sProp 𝕄))
  | some k => exact gift_storable m ρ g.1.1 k

theorem duties_at (ck : Dev nD × Fin 4) : (sched (F := F) m ρ).duties (at_ ck) 0 = {()} := by
  dsimp only [sched]; exact if_pos ⟨rfl, rfl, by rw [event_sm]; rfl⟩
theorem duties_later (g : GSem nD τ sig) : ∀ r, 1 ≤ r → (sched (F := F) m ρ).duties g r = ∅ :=
  fun r hr => by dsimp only [sched]; rw [if_neg fun h => by omega]
theorem amount_at (ck : Dev nD × Fin 4) : (sched (F := F) m ρ).amount (at_ ck) 0 () = amt ck.2 := by
  dsimp only [sched]; rw [event_sm]; rfl
theorem payload_at (ck : Dev nD × Fin 4) : (sched (F := F) m ρ).payload (at_ ck) 0 () = gift m ρ ck.1 ck.2 := by
  dsimp only [sched]; rw [event_sm]; rfl
theorem expect_at (ck : Dev nD × Fin 4) : (sched (F := F) m ρ).expect (at_ ck) 0 = amt ck.2 := by
  unfold Schedule.expect Schedule.amountOf; rw [duties_at, Finset.sum_singleton, amount_at]
/-- What the wait for an event brings. -/
theorem rest_at (ck : Dev nD × Fin 4) :
    bigSep ((sched (F := F) m ρ).duties (at_ ck) 0 \ ∅) (fun d => (sched (F := F) m ρ).payload (at_ ck) 0 d) = gift m ρ ck.1 ck.2 := by
  rw [Finset.sdiff_empty, duties_at, bigSep_singleton, payload_at]

/-! ## What a device owes, and the levels -/

/-- A device owes its partner's exit barrier, its partner's arrival and its partner's entry barrier; paid from the right. -/
def O₂ (c : Dev nD) : CellTallies nD τ sig Unit := tallyAt (at_ (partner c, 3)) () 1
def O₁ (c : Dev nD) : CellTallies nD τ sig Unit := O₂ c + tallyAt (at_ (partner c, 2)) () N
def O₀ (c : Dev nD) : CellTallies nD τ sig Unit := O₁ c + tallyAt (at_ (partner c, 0)) () 1

/-- How much of each event a device owes. -/
def owe : Fin 4 → ℕ := fun | 0 => 1 | 1 => 0 | 2 => N | 3 => 1

def L (g : GSem nD τ sig) : Finset Unit := if g.1.2 = .tc then {()} else ∅
/-- The level of each event. -/
def lvE : Fin 4 → ℕ := fun | 0 => 1 | 1 => 0 | 2 => 2 | 3 => 3
def lv (g : GSem nD τ sig) (_ : Unit) : ℕ := (event g.2).elim 0 lvE

theorem L_of_ne (g : GSem nD τ sig) (h : g.1.2 ≠ .tc) : L g = ∅ := if_neg h
theorem L_tc (c : Dev nD) (s : SemLoc sig) : L ((c : Thread nD τ), s) = {()} := if_pos rfl
theorem lv_at (ck : Dev nD × Fin 4) (u : Unit) : lv (at_ ck) u = lvE ck.2 := by dsimp only [lv]; rw [event_sm]; rfl

/-- Waiting on a semaphore of level `n` is allowed while everything owed is events of higher levels. -/
theorem may_wait (c : Dev nD) (s : SemLoc sig) (O : CellTallies nD τ sig Unit) (n : ℕ) (hs : lv ((c : Thread nD τ), s) () = n)
    (hO : ∀ g u, 0 < O g u → ∃ k, g = at_ (partner c, k) ∧ n < lvE k) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => by obtain ⟨k, rfl, -⟩ := hO g u hg; rw [L_tc]; exact Finset.mem_singleton_self _)
    (fun p hp => by rw [Finset.mem_singleton.mp hp]; exact le_of_eq hs)
    (fun g u hg => by obtain ⟨k, rfl, hk⟩ := hO g u hg; rw [lv_at]; exact hk)

theorem O₂_pos {c : Dev nD} {g : GSem nD τ sig} {u : Unit} (h : 0 < O₂ c g u) : ∃ k, g = at_ (partner c, k) ∧ 2 < lvE k := by
  unfold O₂ at h
  rw [tallyAt_apply] at h
  by_cases hg : g = at_ (partner c, 3) ∧ u = ()
  · exact ⟨3, hg.1, by decide⟩
  · rw [if_neg hg] at h; exact absurd h (Nat.lt_irrefl 0)
theorem O₁_pos {c : Dev nD} {g : GSem nD τ sig} {u : Unit} (h : 0 < O₁ c g u) : ∃ k, g = at_ (partner c, k) ∧ 1 < lvE k := by
  unfold O₁ at h
  rw [Pi.add_apply, Finsupp.add_apply, tallyAt_apply] at h
  by_cases hg : g = at_ (partner c, 2) ∧ u = ()
  · exact ⟨2, hg.1, by decide⟩
  · rw [if_neg hg, Nat.add_zero] at h
    obtain ⟨k, hk, hl⟩ := O₂_pos h
    exact ⟨k, hk, Nat.lt_of_succ_lt hl⟩
theorem O₀_pos {c : Dev nD} {g : GSem nD τ sig} {u : Unit} (h : 0 < O₀ c g u) : ∃ k, g = at_ (partner c, k) ∧ 0 < lvE k := by
  unfold O₀ at h
  rw [Pi.add_apply, Finsupp.add_apply, tallyAt_apply] at h
  by_cases hg : g = at_ (partner c, 0) ∧ u = ()
  · exact ⟨0, hg.1, by decide⟩
  · rw [if_neg hg, Nat.add_zero] at h
    obtain ⟨k, hk, hl⟩ := O₁_pos h
    exact ⟨k, hk, Nat.lt_of_succ_lt hl⟩

/-- The entry barrier is waited for while the arrival and the exit barrier are owed; -/
theorem wait_entry (c : Dev nD) : (levAts L lv : sProp 𝕄) ⊢ MayWait (c : Thread nD τ) (sm 0) () (O₁ c) :=
  may_wait c _ _ 1 (lv_at (c, 0) ()) fun _ _ h => O₁_pos h
/-- the departure while the exit barrier is; -/
theorem wait_departure (c : Dev nD) : (levAts L lv : sProp 𝕄) ⊢ MayWait (c : Thread nD τ) (sm 1) () (O₂ c) :=
  may_wait c _ _ 0 (lv_at (c, 1) ()) fun _ _ h => let ⟨k, hk, hl⟩ := O₂_pos h; ⟨k, hk, by omega⟩
/-- the arrival likewise; -/
theorem wait_arrival (c : Dev nD) : (levAts L lv : sProp 𝕄) ⊢ MayWait (c : Thread nD τ) (sm 2) () (O₂ c) :=
  may_wait c _ _ 2 (lv_at (c, 2) ()) fun _ _ h => O₂_pos h
/-- and the staging's own semaphores while everything or nothing is. -/
theorem wait_staging (c : Dev nD) (q : DmaSem sig) (hq : event (.dma q) = none) (O : CellTallies nD τ sig Unit) (hO : O = O₀ c ∨ O = 0) :
    (levAts L lv : sProp 𝕄) ⊢ MayWait (c : Thread nD τ) (.dma q) () O := by
  rcases hO with rfl | rfl
  · exact may_wait c _ _ 0 (by dsimp only [lv]; rw [hq]; rfl) fun _ _ h => O₀_pos h
  · rw [MayWait_zero]; iintro -; iempintro

/-- What device `d` owes event `k` at device `c`. -/
theorem owed_at (d c : Dev nD) (k : Fin 4) : O₀ d (at_ (c, k)) () = if d = partner c then owe k else 0 := by
  unfold O₀ O₁ O₂
  rw [Pi.add_apply, Finsupp.add_apply, Pi.add_apply, Finsupp.add_apply, tallyAt_apply, tallyAt_apply, tallyAt_apply]
  by_cases h : d = partner c
  · subst h
    rw [partner_partner, if_pos rfl]
    have hne (j : Fin 4) (hj : k ≠ j) : ¬ (at_ (c, k) = at_ (c, j) ∧ () = ()) := fun h => hj (congrArg Prod.snd (at_injective h.1))
    fin_cases k
    · rw [if_neg (hne 3 (by decide)), if_neg (hne 2 (by decide)), if_pos ⟨rfl, rfl⟩]; rfl
    · rw [if_neg (hne 3 (by decide)), if_neg (hne 2 (by decide)), if_neg (hne 0 (by decide))]; rfl
    · rw [if_neg (hne 3 (by decide)), if_pos ⟨rfl, rfl⟩, if_neg (hne 0 (by decide))]; dsimp only [owe]; rw [Nat.zero_add, Nat.add_zero]
    · rw [if_pos ⟨rfl, rfl⟩, if_neg (hne 2 (by decide)), if_neg (hne 0 (by decide))]; rfl
  · have hne (j : Fin 4) : ¬ (at_ (c, k) = at_ (partner d, j) ∧ () = ()) := fun h' =>
      h (by rw [← partner_partner d]; exact congrArg partner (congrArg Prod.fst (at_injective h'.1)).symm)
    rw [if_neg h, if_neg (hne 3), if_neg (hne 2), if_neg (hne 0)]

end Cert.TopK

end
-- ==== Proof.Body.lean ====
/-
# The kernel's body on one device

The body is run one effect at a time in program order, from what a device holds at its start — the events' records, its
positions at its own four events, the tokens of the four duties it pays, its credit, its staged block and its exchange
buffer — to its result in the output's staging buffer and its four events closed.
-/
module

public import proofs.«01_k».proof.Proof.Protocol

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device starts and ends with -/

/-- Every event's invariant, at the names `K`, and that its round 0 is open. -/
def records (K : Dev nD × Fin 4 → ℕ) : sProp 𝕄 :=
  iprop((bigSep Finset.univ fun ck : Dev nD × Fin 4 => cellInv ER (sched m ρ) (K ck) (at_ ck))
    ∗ bigSep Finset.univ fun ck : Dev nD × Fin 4 => reached ER (at_ ck) 0)

instance records_persistent (K : Dev nD × Fin 4 → ℕ) : BI.Persistent (records m ρ K) := by unfold records; infer_instance

theorem inv_at (K : Dev nD × Fin 4 → ℕ) (ck : Dev nD × Fin 4) : records m ρ K ⊢ cellInv ER (sched m ρ) (K ck) (at_ ck) := by
  unfold records
  exact sep_elim_left.trans (bigSep_elim (Finset.mem_univ ck))
theorem open_at (K : Dev nD × Fin 4 → ℕ) (ck : Dev nD × Fin 4) : records m ρ K ⊢ reached ER (at_ ck) 0 := by
  unfold records
  exact sep_elim_right.trans (bigSep_elim (Finset.mem_univ ck))

/-- The tokens of the duties device `c` pays: its partner's entry, arrival and exit, its own departure. -/
def payToks (c : Dev nD) : sProp 𝕄 :=
  iprop(dutyTok ER (at_ (partner c, 0)) 0 () ∗ dutyTok ER (at_ (c, 1)) 0 () ∗ dutyTok ER (at_ (partner c, 2)) 0 () ∗ dutyTok ER (at_ (partner c, 3)) 0 ())
/-- Its positions at its own events. -/
def positions (c : Dev nD) : sProp 𝕄 :=
  iprop(atPos ER (at_ (c, 0)) 0 ∅ 0 ∗ atPos ER (at_ (c, 1)) 0 ∅ 0 ∗ atPos ER (at_ (c, 2)) 0 ∅ 0 ∗ atPos ER (at_ (c, 3)) 0 ∅ 0)
/-- Its credit: what its partner owes it. -/
def credits (c : Dev nD) : sProp 𝕄 :=
  iprop(cred (tallyAt (at_ (c, 0)) () 1) ∗ cred (tallyAt (at_ (c, 2)) () N) ∗ cred (tallyAt (at_ (c, 3)) () 1))

/-- What the launch gives device `c` of the protocol. -/
def ghost (K : Dev nD × Fin 4 → ℕ) (c : Dev nD) : sProp 𝕄 := iprop(records m ρ K ∗ positions c ∗ payToks c)
/-- That at some names, with the credit and the levels. -/
def begin_ (c : Dev nD) : sProp 𝕄 := iprop((∃ K, ghost m ρ K c) ∗ credits c ∗ levAts L lv)

/-- The exchange buffer, at whatever contents. -/
def someScr (c : Dev nD) : sProp 𝕄 :=
  iprop(∃ f : Buf (Elt F) ((c : Thread nD τ).loc cc0_scratch0), ((c : Thread nD τ).loc cc0_scratch0) ↦{fullShare} f)
/-- The four events' counters at zero. -/
def zeros (c : Dev nD) : sProp 𝕄 :=
  iprop(semVal (at_ (c, 0)) 0 ∗ semVal (at_ (c, 1)) 0 ∗ semVal (at_ (c, 2)) 0 ∗ semVal (at_ (c, 3)) 0)

def Φ₀ (c : Dev nD) : sProp 𝕄 := iprop(begin_ m ρ c ∗ someScr c)
def Φ₁ (c : Dev nD) : sProp 𝕄 := iprop(someScr (F := F) c ∗ zeros c)

theorem one_point : cfg0.N = 1 := by decide
def t₀ : Fin cfg0.N := ⟨0, by rw [one_point]; decide⟩
theorem fin_N (t : Fin cfg0.N) : t = t₀ := by
  obtain ⟨t, ht⟩ := t; have := one_point; exact Fin.ext (by simp only [t₀]; omega)

/-- The pipeline's data: the operand's staging buffer keeps the block, the result's receives the result. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => block m ρ c
    | ⟨1, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- A whole buffer held at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The effects -/

section Effects

variable (K : Dev nD × Fin 4 → ℕ)

/-- A signal to event `k` of device `n = partner c`, with the event's gift. -/
theorem signal_step (c n : Dev nD) (hn : n = partner c) (k : Fin 4) (s : Sem sig) (hs : SemLoc.reg s = sm k) (h1 : amt k = 1)
    {α : Type} {Q : α → sProp 𝕄} {kt : PUnit → Prog (TpuEff nD τ sig (Elt F) Λ₀ .tc) α} (O O' : CellTallies nD τ sig Unit)
    (hO : O' = O + tallyAt (at_ (partner c, k)) () 1) (W : Waits sig Unit) :
    iprop(records m ρ K ∗ owes (c : Thread nD τ) O' W ∗ dutyTok ER (at_ (partner c, k)) 0 () ∗ gift m ρ (partner c) k)
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) s 1) kt) Q) := by
  subst hn
  have hc : (((partner c : Dev nD) : Thread nD τ), SemLoc.reg s) = at_ (partner c, k) := by rw [hs]
  iintro ⟨#HR, HO, Ht, Hg⟩
  iapply (Rounds.wp_signal 𝒱₀ ER (sched m ρ) (c : Thread nD τ) none (dst := (partner c : Thread nD τ)) (κ := K (partner c, k)) (r := 0)
    (d := ()) (by rw [hc, duties_at]; exact Finset.mem_singleton_self _) (by rw [hc, amount_at]; exact h1) () (O₀ := O') O (by rw [hc]; exact hO))
  rw [hc, payload_at]
  isplitr; · iapply (inv_at m ρ K (partner c, k)); iexact HR
  isplitl [HO]; · iexact HO
  isplitl [Ht]; · iexact Ht
  isplitl [Hg]; · iexact Hg
  iapply (open_at m ρ K (partner c, k)); iexact HR

/-- A wait for event `k` of device `c` itself: it brings the event's gift. -/
theorem wait_step (c : Dev nD) (k : Fin 4) (n : ℕ) (hn : n = amt k) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (sm k) n Kt)
    {α : Type} {Q : α → sProp 𝕄} {kt : PUnit → Prog (TpuEff nD τ sig (Elt F) Λ₀ .tc) α} (O : CellTallies nD τ sig Unit)
    (hO : (levAts L lv : sProp 𝕄) ⊢ MayWait (c : Thread nD τ) (sm k) () O) (W : Waits sig Unit) :
    iprop(records m ρ K ∗ levAts L lv ∗ cred (tallyAt (at_ (c, k)) () n) ∗ owes (c : Thread nD τ) O W ∗ atPos ER (at_ (c, k)) 0 ∅ 0)
      ⊢ iprop(((owes (c : Thread nD τ) O (insert (sm k, ()) W) ∗ atPos ER (at_ (c, k)) 1 ∅ 0 ∗ gift m ρ c k)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  iintro ⟨#HR, #Hlev, Hc, HO, Hat⟩ Hk
  iapply (Rounds.wp_wait_rest_token 𝒱₀ ER (sched m ρ) (c : Thread nD τ) none (κ := K (c, k)) hw (Set.mem_univ _) () (O := O) (W := W)
    (R := 0) (m := 0) (T := ∅) (by rw [Nat.zero_add, hn]; exact (expect_at m ρ (c, k)).symm)) $$ [Hc HO Hat]
  · isplitr; · iapply (inv_at m ρ K (c, k)); iexact HR
    isplitl [Hc]; · iexact Hc
    isplitl [HO]; · iexact HO
    isplitr; · iapply hO; iexact Hlev
    iexact Hat
  iintro ⟨HO, Hat, -, Hg⟩
  ihave Hg := (Entails.of_eq (rest_at m ρ (c, k))) $$ Hg
  iapply Hk
  isplitl [HO]; · iexact HO
  isplitl [Hat]; · iexact Hat
  iexact Hg

/-- The same for a wait on a transfer's semaphore. -/
theorem dma_wait_step (c : Dev nD) (k : Fin 4) (q : DmaSem sig) (hq : SemLoc.dma q = sm k)
    (src dst : Memref sig .tc .vmem S512x16 .f32) {hs : src.view.WordExact} {hd : dst.view.WordExact} (hn : dst.view.dmaCredit = amt k)
    {α : Type} {Q : α → sProp 𝕄} {kt : PUnit → Prog (TpuEff nD τ sig (Elt F) Λ₀ .tc) α} (O : CellTallies nD τ sig Unit)
    (hO : (levAts L lv : sProp 𝕄) ⊢ MayWait (c : Thread nD τ) (sm k) () O) (W : Waits sig Unit) :
    iprop(records m ρ K ∗ levAts L lv ∗ cred (tallyAt (at_ (c, k)) () (amt k)) ∗ owes (c : Thread nD τ) O W ∗ atPos ER (at_ (c, k)) 0 ∅ 0)
      ⊢ iprop(((owes (c : Thread nD τ) O (insert (sm k, ()) W) ∗ atPos ER (at_ (c, k)) 1 ∅ 0 ∗ gift m ρ c k)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hs hd) kt) Q) :=
  wait_step m ρ K c k (amt k) rfl (fun Kt => by rw [← hn, ← hq]; exact wpE_waitDma2_eq 𝒱₀ (c : Thread nD τ) none Set.univ Kt) O hO W

/-- Slot A, read by the transfer, is the departure's payload; -/
theorem departure_pays (c : Dev nD) :
    (slotA.view.loc (c : Thread nD τ) ↦[slotA.view.set]{fullShare} (comm (mine m ρ c)) : sProp 𝕄) ⊢ (sched m ρ).payload (at_ (c, 1)) 0 () :=
  Entails.of_eq (payload_at m ρ (c, 1)).symm
/-- the partner's slot B, written by it, the arrival's. -/
theorem arrival_pays (c : Dev nD) (f : Buf (Elt F) (scr.view.loc (partner c : Thread nD τ))) :
    (slotB.view.loc (partner c : Thread nD τ) ↦[slotB.view.set]{fullShare}
        (slotB.view.write (Elt F) f (slotA.view.read (Elt F) (comm (mine m ρ c))) Finset.univ) : sProp 𝕄)
      ⊢ (sched m ρ).payload (at_ (partner c, 2)) 0 () := by
  refine (Entails.of_eq ((pointsTo_congr (transfer f (mine m ρ c))).trans ?_)).trans (Entails.of_eq (payload_at m ρ (partner c, 2)).symm)
  show ptsB (partner c) (comm (mine m ρ c)) = ptsB (partner c) (comm (mine m ρ (partner (partner c))))
  rw [partner_partner]

/-- The transfer of slot A of device `c` into slot B of device `n = partner c`. -/
theorem transfer_step (c n : Dev nD) (hn : n = partner c)
    {hsc : (slotB : Memref sig (Dev.tc n : Thread nD τ).2.kind .vmem S512x16 .f32).view.ref.isScScratch = false}
    {hsrc : (slotA : Memref sig .tc .vmem S512x16 .f32).view.WordExact} {hdst : (slotB : Memref sig .tc .vmem S512x16 .f32).view.WordExact}
    {hsem : DmaTarget.Typed .vmem (.dma cc0_scratch2.sem) (.remote (Dev.tc n : Thread nD τ) (slotB : Memref sig .tc .vmem S512x16 .f32) (.dma cc0_scratch1.sem) hsc)}
    {α : Type} {Q : α → sProp 𝕄} {kt : PUnit → Prog (TpuEff nD τ sig (Elt F) Λ₀ .tc) α}
    (f : Buf (Elt F) (scr.view.loc (partner c : Thread nD τ))) (W : Waits sig Unit) :
    iprop(records m ρ K ∗ ptsA c (comm (mine m ρ c)) ∗ ptsB (partner c) f ∗ owes (c : Thread nD τ) (O₁ c) W
        ∗ dutyTok ER (at_ (c, 1)) 0 () ∗ dutyTok ER (at_ (partner c, 2)) 0 ())
      ⊢ iprop(((cred (tallyAt (at_ (c, 1)) () N) ∗ owes (c : Thread nD τ) (O₂ c) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma slotA (.remote (Dev.tc n : Thread nD τ) slotB (.dma cc0_scratch1.sem) hsc) (.dma cc0_scratch2.sem) hsrc hdst hsem) kt) Q) := by
  subst hn
  iintro ⟨#HR, HA, HB, HO, Ht1, Ht2⟩
  have h := Rounds.wp_send_pointsTo (Γ := PendingWaitsCtx.empty) (defs := defs₀ (F := F)) (Q := Q) (k := kt) (hsc := hsc) (hsrc := hsrc) (hdst := hdst) (hsem := hsem)
    𝒱₀ ER (sched m ρ) (c : Thread nD τ) none (κ₁ := K (c, 1)) (κ₂ := K (partner c, 2))
    (c' := (partner c : Thread nD τ)) (src := slotA) (dst := slotB) (sS := .dma cc0_scratch1.sem) (sem := .dma cc0_scratch2.sem)
    (r₁ := 0) (r₂ := 0) (d₁ := ()) (d₂ := ()) (q := fullShare) (fs := comm (mine m ρ c)) (fd := f) (Es := Set.univ)
    (by rw [duties_at m ρ (c, 1)]; exact Finset.mem_singleton_self _) (by rw [duties_at m ρ (partner c, 2)]; exact Finset.mem_singleton_self _)
    () () N rfl (amount_at m ρ (c, 1)) (amount_at m ρ (partner c, 2)) (O₀ := O₁ c) (O₂ c) rfl (W := W)
    (departure_pays m ρ c) (arrival_pays m ρ c f)
  iapply h
  isplitr; · iapply (inv_at m ρ K (c, 1)); iexact HR
  isplitr; · iapply (inv_at m ρ K (partner c, 2)); iexact HR
  isplitl [HA]; · unfold ptsA; iexact HA
  isplitl [HB]; · unfold ptsB; iexact HB
  isplitl [HO]; · iexact HO
  isplitl [Ht1]; · iexact Ht1
  isplitr; · iapply (open_at m ρ K (c, 1)); iexact HR
  isplitl [Ht2]; · iexact Ht2
  iapply (open_at m ρ K (partner c, 2)); iexact HR

/-- An event waited for is closed: its counter at zero is the device's again. -/
theorem close_step (ck : Dev nD × Fin 4) :
    iprop(records m ρ K ∗ atPos ER (at_ ck) 1 ∅ 0) ⊢ (|={Set.univ}=> semVal (at_ ck) 0 : sProp 𝕄) := by
  iintro ⟨#HR, Hat⟩
  iapply (Rounds.cell_close ER (sched m ρ) (Set.mem_univ (K ck)) (fun h => h) (R := 0 + 1) (duties_later m ρ (at_ ck)))
  isplitr; · iapply (inv_at m ρ K ck); iexact HR
  iexact Hat

end Effects

/-! ## The body -/

/-- The body's loads and stores of whole buffers. -/
abbrev xM : Memref sig .tc .vmem S512x4096 .f32 := Memref.whole cc0_stg0_0
abbrev oM : Memref sig .tc .vmem S512x16 .f32 := Memref.whole cc0_stg1_0
theorem off_zero : (![0, 0] : Fin 2 → Nat) = fun _ => 0 := funext fun a => by fin_cases a <;> rfl
theorem read_x (f : (cc0_stg0_0 : Ref sig .tc).ty.Contents (Elt F)) :
    xM.view.readAt (Elt F) (Rect.unit (s := S512x4096) ![0, 0] S512x4096.size inb_S512x4096_S512x4096_0_0).toLoadRect f = f :=
  Memref.readAt_unit_zero (Elt F) cc0_stg0_0 off_zero _ f
theorem write_out (f w : (cc0_stg1_0 : Ref sig .tc).ty.Contents (Elt F)) :
    (oM.access (Rect.unit (s := S512x16) ![0, 0] S512x16.size inb_S512x16_S512x16_0_0) : View sig .tc _ _ _).write (Elt F) f w Finset.univ = w :=
  Memref.write_access_unit_zero_univ (Elt F) cc0_stg1_0 off_zero _ f w

theorem access_A : (scr.access rectA).set ⊆ (slotA.view.set : Finset S2x512x16.Idx) := by
  rw [setA]; exact (View.set_slice_whole _ _).subset
theorem access_B : (scr.access rectB).set ⊆ (slotB.view.set : Finset S2x512x16.Idx) := by
  rw [setB]; exact (View.set_slice_whole _ _).subset

def bodyPre (K : Dev nD × Fin 4 → ℕ) (c : Dev nD) : sProp 𝕄 :=
  iprop((ghost m ρ K c ∗ credits c ∗ levAts L lv) ∗ someScr (F := F) c
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (block m ρ c) ∗ stg c cc0_stg1_0 (result m ρ c))

set_option maxHeartbeats 1600000 in
/-- The body, effect by effect. -/
theorem body_run (K : Dev nD × Fin 4 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scoped0) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost positions payToks credits someScr
  iintro ⟨⟨⟨⟨#HR, ⟨Hp0, Hp1, Hp2, Hp3⟩, Ht0, Ht1, Ht2, Ht3⟩, ⟨Hc0, Hc2, Hc3⟩, #Hlev⟩, ⟨%f0, Hscr⟩, Ho, ⟨%d0, %g0, %hg0, Hx⟩, ⟨%d1, %g1, %hg1, Hout⟩⟩, Hk⟩
  have hx : g0 = block m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hs := (slots_split c f0) $$ Hscr
  icases Hs with ⟨HA, HB⟩
  -- the entry signal lends slot B to the partner
  iapply (signal_step m ρ K c _ (addr1 c) 0 _ rfl rfl (O₁ c) (O₀ c) rfl W) $$ [HO Ht0 HB]
  · isplitr; · iexact HR
    isplitl [HO]; · iexact HO
    isplitl [Ht0]; · iexact Ht0
    dsimp only [gift]
    rw [partner_partner]
    iexists f0; iexact HB
  iintro HO
  -- the entry wait brings the partner's slot B
  iapply (wait_step m ρ K c 0 _ rfl (wpE_semWait_eq 𝒱₀ (c : Thread nD τ) none Set.univ) (O₁ c) (wait_entry c) W) $$ [Hc0 HO Hp0]
  · isplitr; · iexact HR
    isplitr; · iexact Hlev
    isplitl [Hc0]; · iexact Hc0
    isplitl [HO]; · iexact HO
    iexact Hp0
  iintro ⟨HO, Hp0, Hg⟩
  ihave Hg := (Entails.of_eq (show gift m ρ c 0 = iprop(∃ f, ptsB (partner c) f) from rfl)) $$ Hg
  icases Hg with ⟨%f1, HB⟩
  -- the block is read, its sixteen values stored in slot A
  iapply (wp_load 𝒱₀ (c : Thread nD τ) none Set.univ (m := xM) (Finset.subset_univ _)) $$ Hx; iintro Hx
  rw [read_x]
  unfold ptsA
  iapply (wp_load_rect 𝒱₀ (c : Thread nD τ) none Set.univ (m := scr) (r := rectA) access_A) $$ HA; iintro HA
  generalize hw : k0_pay14 (F := F) _ _ _ _ _ _ _ _ _ _ _ _ = w
  obtain rfl : w = mine m ρ c := hw.symm
  iapply (wp_store 𝒱₀ (c : Thread nD τ) none Set.univ (m := scr) (r := rectA) (Mk := Finset.univ) access_A) $$ HA; iintro HA
  ihave HA := (Entails.of_eq (pointsTo_congr (q := fullShare) (ℓ := scr.view.loc (c : Thread nD τ)) (store_A f0 (mine m ρ c)))) $$ HA
  -- the transfer
  iapply (transfer_step m ρ K c _ (addr2 c) f1 _) $$ [HA HB HO Ht1 Ht2]
  · isplitr; · iexact HR
    isplitl [HA]; · unfold ptsA; iexact HA
    isplitl [HB]; · iexact HB
    isplitl [HO]; · iexact HO
    isplitl [Ht1]; · iexact Ht1
    iexact Ht2
  iintro ⟨Hc1, HO⟩
  -- its departure and the partner's arrival
  iapply (dma_wait_step m ρ K c 1 _ rfl slotB slotA rfl (O₂ c) (wait_departure c) _) $$ [Hc1 HO Hp1]
  · isplitr; · iexact HR
    isplitr; · iexact Hlev
    isplitl [Hc1]; · iexact Hc1
    isplitl [HO]; · iexact HO
    iexact Hp1
  iintro ⟨HO, Hp1, HA⟩
  iapply (dma_wait_step m ρ K c 2 _ rfl slotA slotB rfl (O₂ c) (wait_arrival c) _) $$ [Hc2 HO Hp2]
  · isplitr; · iexact HR
    isplitr; · iexact Hlev
    isplitl [Hc2]; · iexact Hc2
    isplitl [HO]; · iexact HO
    iexact Hp2
  iintro ⟨HO, Hp2, HB⟩
  -- the two lists are read and merged
  dsimp only [gift]
  unfold ptsA ptsB
  iapply (wp_load_rect 𝒱₀ (c : Thread nD τ) none Set.univ (m := scr) (r := rectA) access_A) $$ HA; iintro HA
  iapply (wp_load_rect 𝒱₀ (c : Thread nD τ) none Set.univ (m := scr) (r := rectB) access_B) $$ HB; iintro HB
  rw [load_A, load_B]
  iapply (wp_load 𝒱₀ (c : Thread nD τ) none Set.univ (m := oM) (Finset.subset_univ _)) $$ Hout; iintro Hout
  iapply (wp_store 𝒱₀ (c : Thread nD τ) none Set.univ (m := oM)
    (r := Rect.unit (s := S512x16) ![0, 0] S512x16.size inb_S512x16_S512x16_0_0) (Mk := Finset.univ) (Finset.subset_univ _)) $$ Hout; iintro Hout
  rw [write_out]
  -- the exit barrier
  iapply (signal_step m ρ K c _ (addr3 c) 3 _ rfl rfl 0 (O₂ c) (by unfold O₂; rw [zero_add]) _) $$ [HO Ht3]
  · isplitr; · iexact HR
    isplitl [HO]; · iexact HO
    isplitl [Ht3]; · iexact Ht3
    dsimp only [gift]
    iempintro
  iintro HO
  iapply (wait_step m ρ K c 3 _ rfl (wpE_semWait_eq 𝒱₀ (c : Thread nD τ) none Set.univ) 0 (by rw [MayWait_zero]; iintro -; iempintro) _) $$ [Hc3 HO Hp3]
  · isplitr; · iexact HR
    isplitr; · iexact Hlev
    isplitl [Hc3]; · iexact Hc3
    isplitl [HO]; · iexact HO
    iexact Hp3
  iintro ⟨HO, Hp3, -⟩
  -- the four events close
  imod (close_step m ρ K (c, 0)) $$ [Hp0] with Hz0
  · isplitr; · iexact HR
    iexact Hp0
  imod (close_step m ρ K (c, 1)) $$ [Hp1] with Hz1
  · isplitr; · iexact HR
    iexact Hp1
  imod (close_step m ρ K (c, 2)) $$ [Hp2] with Hz2
  · isplitr; · iexact HR
    iexact Hp2
  imod (close_step m ρ K (c, 3)) $$ [Hp3] with Hz3
  · isplitr; · iexact HR
    iexact Hp3
  rw [wp_ret]; imodintro
  iapply Hk
  unfold bodyPost Φ₁ zeros Dat.owesAt Pipeline.owesWithin
  rw [show (dats m ρ 0 c).owed t₀.succ = 0 from rfl]
  isplitl [HA HB Hz0 Hz1 Hz2 Hz3]
  · isplitl [HA HB]
    · unfold someScr
      iapply (slots_join c (comm (mine m ρ c)) (comm (mine m ρ (partner c))))
      unfold ptsA ptsB
      isplitl [HA]; · iexact HA
      iexact HB
    isplitl [Hz0]; · iexact Hz0
    isplitl [Hz1]; · iexact Hz1
    isplitl [Hz2] <;> iassumption
  isplitl [HO]
  · iexists (insert (sm 3, ()) (insert (sm 2, ()) (insert (sm 1, ()) (insert (sm 0, ()) W))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show iprop(Φ₀ m ρ c ∗ (dats m ρ 0 c).owesAt () t₀.castSucc
      ∗ (∃ d, stg c cc0_stg0_0 ((dats m ρ 0 c).before (0 : Fin 2) t₀ d)) ∗ (∃ d, stg c cc0_stg1_0 ((dats m ρ 0 c).before (1 : Fin 2) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2 cc0_scoped0) (fun _ => bodyPost m ρ c)
  unfold Φ₀ begin_
  iintro ⟨⟨⟨⟨%K, Hg⟩, Hc, Hl⟩, Hscr⟩, Ho, Hx, Hout⟩
  iapply (body_run m ρ K c fun _ => bodyPost m ρ c)
  unfold bodyPre
  isplitr []
  · isplitl [Hg Hc Hl]
    · isplitl [Hg]; · iexact Hg
      isplitl [Hc]; · iexact Hc
      iexact Hl
    isplitl [Hscr]; · iexact Hscr
    isplitl [Ho]; · iexact Ho
    isplitl [Hx]; · iexact Hx
    iexact Hout
  · iintro H; iexact H

end Cert.TopK

end
-- ==== Proof.Run.lean ====
/-
# The kernel's run on the whole mesh

The launch hands every device its events' records, tokens and credit; with the body's obligation the library's launch
theorem gives the run: it ends, every device's operand is as it was, its result array holds `result`, and every
semaphore's counter is zero again.
-/
module

public import proofs.«01_k».proof.Proof.Body
public import Idealize.ShloMosaic.Lib.Pipeline.CollectiveSegs
public import Idealize.ShloMosaic.Lib.Pipeline.Value

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at launch -/

/-- The semaphores scoped to the kernel: all but the runtime's barrier. -/
abbrev scopedSm : Fin 3 → SemLoc sig := fun k => sm k.succ
theorem scoped_facts : Pipeline.OwnSemFacts cfg0.spec scopedSm := by decide
theorem share_full (c : Dev nD) (w : Fin cfg0.W) : (dats m ρ 0 c).share w = fullShare := by unfold Dat.share; split <;> rfl

/-- All events of all devices, and the one duty token of each. -/
def events : Finset (GSem nD τ sig) := Finset.univ.map ⟨at_, at_injective⟩
abbrev tokAt (ck : Dev nD × Fin 4) : GSem nD τ sig × ℕ × Unit := (at_ ck, 0, ())
theorem tokAt_injective : Function.Injective tokAt := fun _ _ h => at_injective (congrArg Prod.fst h)
def tokens : Finset (GSem nD τ sig × ℕ × Unit) := Finset.univ.map ⟨tokAt, tokAt_injective⟩

def u₀ : UU := (initOf (Pipeline.cells cfgs cellOf_inj) (Pipeline.launchToks cfgs cellOf_inj), initOf events tokens)

/-- Device `c`'s part of the fresh ghost state: its events' round states, positions and marks, and its events' tokens. -/
def G (c : Dev nD) : sProp 𝕄 :=
  iprop((bigSep Finset.univ fun k : Fin 4 => roundState ER (sched m ρ) (at_ (c, k)) 0)
    ∗ (bigSep Finset.univ fun k : Fin 4 => iprop(atPos ER (at_ (c, k)) 0 ∅ 0 ∗ reached ER (at_ (c, k)) 0))
    ∗ bigSep Finset.univ fun k : Fin 4 => dutyTok ER (at_ (c, k)) 0 ())
/-- What the global step makes of all of them for device `c`. -/
def G' (c : Dev nD) : sProp 𝕄 := iprop(∃ K, ghost m ρ K c)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fund_events : BI.own (ER (initOf events tokens)) ⊢ (|==> bigSep Finset.univ (G m ρ) : sProp 𝕄) := by
  have hX (Φ : GSem nD τ sig → sProp 𝕄) : bigSep events Φ = bigSep Finset.univ fun c : Dev nD => bigSep Finset.univ fun k : Fin 4 => Φ (at_ (c, k)) := by
    unfold events; rw [bigSep_map, bigSep_univ_prod]; rfl
  have hT : bigSep tokens (fun x => (dutyTok ER x.1 x.2.1 x.2.2 : sProp 𝕄))
      = bigSep Finset.univ fun c : Dev nD => bigSep Finset.univ fun k : Fin 4 => dutyTok ER (at_ (c, k)) 0 () := by
    unfold tokens; rw [bigSep_map, bigSep_univ_prod]; rfl
  iintro HX
  imod (Rounds.fund ER (sched m ρ) events tokens) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem own_sems (c : Dev nD) : (Pipeline.ownSems0 (Ix := Unit) (Name := ℕ) (U := UU) (Lvl := ℕ) (Val := Elt F) (τ := τ) scopedSm c : sProp 𝕄)
    = iprop(semVal (at_ (c, 1)) 0 ∗ semVal (at_ (c, 2)) 0 ∗ semVal (at_ (c, 3)) 0) := by
  rw [Pipeline.ownSems0_eq_of_list c scopedSm [0, 1, 2] (by decide) (by decide)]; rfl
theorem barrier_sem (c : Dev nD) : (unscopedSems0 c : sProp 𝕄) = semVal (at_ (c, 0)) 0 := by
  unfold unscopedSems0; rw [bigSep_eq_bigSepL_of_eq [sm 0] (by decide) (by decide)]; rfl

theorem all_sems (c : Dev nD) :
    iprop(Pipeline.ownSems0 (Ix := Unit) (Name := ℕ) (U := UU) (Lvl := ℕ) (Val := Elt F) (τ := τ) scopedSm c ∗ unscopedSems0 c)
      ⊢ (bigSep Finset.univ fun k : Fin 4 => semVal (at_ (c, k)) 0 : sProp 𝕄) := by
  rw [own_sems, barrier_sem, four]
  iintro ⟨H, H0⟩
  isplitl [H0] <;> iassumption

/-- Each device's four counters become its events' invariants. -/
theorem allocate (c : Dev nD) :
    iprop(Pipeline.ownSems0 (Ix := Unit) (Name := ℕ) (U := UU) (Lvl := ℕ) (Val := Elt F) (τ := τ) scopedSm c ∗ unscopedSems0 c ∗ G m ρ c)
      ⊢ |={Set.univ}=> iprop((bigSep Finset.univ fun k => iprop(∃ κ : ℕ, cellInv ER (sched m ρ) κ (at_ (c, k))))
          ∗ (bigSep Finset.univ fun k => iprop(atPos ER (at_ (c, k)) 0 ∅ 0 ∗ reached ER (at_ (c, k)) 0))
          ∗ bigSep Finset.univ fun k => dutyTok ER (at_ (c, k)) 0 ()) := by
  unfold G
  iintro ⟨Hos, Hus, Hst, Hat, Htok⟩
  ihave Hv := (all_sems (F := F) c) $$ [Hos Hus]
  · isplitl [Hos] <;> iassumption
  imod (show iprop((bigSep Finset.univ fun k : Fin 4 => semVal (at_ (c, k)) 0) ∗ bigSep Finset.univ fun k : Fin 4 => roundState ER (sched m ρ) (at_ (c, k)) 0)
      ⊢ (|={Set.univ}=> bigSep Finset.univ fun k => iprop(∃ κ : ℕ, cellInv ER (sched m ρ) κ (at_ (c, k))) : sProp 𝕄) from by
        rw [← bigSep_sep']
        exact (bigSep_mono fun k _ => (Rounds.body_intro ER (sched m ρ) (at_ (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens change hands: each event's goes to the device that pays it — the partner, or for the departure the device. -/
theorem deal : (bigSep Finset.univ fun c : Dev nD => bigSep Finset.univ fun k : Fin 4 => (dutyTok ER (at_ (c, k)) 0 () : sProp 𝕄))
    ⊢ bigSep Finset.univ fun c : Dev nD => payToks c := by
  unfold payToks
  simp only [four]
  rw [bigSep_sep', bigSep_sep', bigSep_sep', bigSep_sep', bigSep_sep', bigSep_sep',
    bigSep_univ_equiv swap (fun c : Dev nD => (dutyTok ER (at_ (c, 0)) 0 () : sProp 𝕄)),
    bigSep_univ_equiv swap (fun c : Dev nD => (dutyTok ER (at_ (c, 2)) 0 () : sProp 𝕄)),
    bigSep_univ_equiv swap (fun c : Dev nD => (dutyTok ER (at_ (c, 3)) 0 () : sProp 𝕄))]
  exact BI.Entails.refl _

/-- A persistent assertion can be used at each member of a separating conjunction. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather_positions :
    (bigSep Finset.univ fun c : Dev nD => bigSep Finset.univ fun k : Fin 4 => (atPos ER (at_ (c, k)) 0 ∅ 0 : sProp 𝕄))
      ⊢ bigSep Finset.univ fun c : Dev nD => positions (F := F) c := by
  have h (c : Dev nD) : (bigSep Finset.univ fun k : Fin 4 => (atPos ER (at_ (c, k)) 0 ∅ 0 : sProp 𝕄)) = positions (F := F) c := by
    unfold positions; rw [four]
  exact bigSep_mono fun c _ => Entails.of_eq (h c)

theorem regroup :
    (bigSep Finset.univ fun c : Dev nD => iprop((bigSep Finset.univ fun k => iprop(∃ κ : ℕ, cellInv ER (sched m ρ) κ (at_ (c, k))))
          ∗ (bigSep Finset.univ fun k => iprop(atPos ER (at_ (c, k)) 0 ∅ 0 ∗ reached ER (at_ (c, k)) 0))
          ∗ bigSep Finset.univ fun k => dutyTok ER (at_ (c, k)) 0 ()) : sProp 𝕄)
      ⊢ bigSep Finset.univ (G' m ρ) := by
  rw [bigSep_sep', bigSep_sep', ← bigSep_univ_prod (fun ck : Dev nD × Fin 4 => iprop(∃ κ : ℕ, cellInv ER (sched m ρ) κ (at_ ck))),
    bigSep_congr (s := Finset.univ) (fun (c : Dev nD) _ => bigSep_sep' Finset.univ (fun k : Fin 4 => (atPos ER (at_ (c, k)) 0 ∅ 0 : sProp 𝕄)) (fun k => reached ER (at_ (c, k)) 0)),
    bigSep_sep', ← bigSep_univ_prod (fun ck : Dev nD × Fin 4 => (reached ER (at_ ck) 0 : sProp 𝕄))]
  iintro ⟨HI, ⟨Hat, #HR⟩, Htok⟩
  ihave HK := (BI.bigSep_exists_pi Finset.univ (fun (ck : Dev nD × Fin 4) (κ : ℕ) => (cellInv ER (sched m ρ) κ (at_ ck) : sProp 𝕄))) $$ HI
  icases HK with ⟨%K, #HI⟩
  ihave Htk := (deal (F := F)) $$ Htok
  iapply (each_with (R := records m ρ K) (Φ := fun c => iprop(positions c ∗ payToks c)) fun c _ => by
    unfold G' ghost
    iintro ⟨#HR, H⟩
    iexists K
    isplitr; · iexact HR
    iexact H)
  isplitr
  · unfold records; isplitl; · iexact HI
    iexact HR
  · rw [bigSep_sep']
    isplitl [Hat]
    · iapply (gather_positions (F := F))
      iexact Hat
    iexact Htk

/-- The global step: all devices' counters and ghost state at once. -/
theorem global_step :
    (bigSep Finset.univ fun c => iprop(Pipeline.ownSems0 (Ix := Unit) (Name := ℕ) (U := UU) (Lvl := ℕ) (Val := Elt F) (τ := τ) scopedSm c ∗ unscopedSems0 c ∗ G m ρ c) : sProp 𝕄)
      ⊢ |={Set.univ}=> bigSep Finset.univ (G' m ρ) :=
  ((bigSep_mono fun c _ => allocate m ρ c).trans (bigSep_fupd _ _)).trans (BI.fupd_mono (regroup m ρ))

/-! ## The credit at launch -/

theorem credit_at (c : Dev nD) (k : Fin 4) :
    tallyOn (at_ (c, k)) (launchCredit (Pipeline.owing O₀) 0 (at_ (c, k))) = (tallyAt (at_ (c, k)) () (owe k) : CellTallies nD τ sig Unit) := by
  unfold tallyAt; refine congrArg _ (Finsupp.ext fun u => ?_); cases u
  rw [Pipeline.launchCredit_owing, Finsupp.single_eq_same, Finset.sum_congr rfl fun d _ => owed_at d c k,
    Finset.sum_ite_eq' Finset.univ (partner c) fun _ => owe k, if_pos (Finset.mem_univ _)]

theorem credit_dealt (c : Dev nD) : (Pipeline.launchCred O₀ c : sProp 𝕄) ⊢ credits c := by
  have hsplit (Φ : SemLoc sig → sProp 𝕄) : bigSep Finset.univ Φ ⊢ iprop(Φ (sm 0) ∗ Φ (sm 2) ∗ Φ (sm 3)) := by
    rw [bigSep_univ_at Φ (sm 0), bigSep_erase (i := sm 2) (Finset.mem_erase.mpr ⟨by decide, Finset.mem_univ _⟩)]
    exact sep_mono_right (sep_mono_right (bigSep_elim (Finset.mem_erase.mpr ⟨by decide, Finset.mem_erase.mpr ⟨by decide, Finset.mem_univ _⟩⟩)))
  unfold Pipeline.launchCred credits
  refine (hsplit _).trans (Entails.of_eq ?_)
  have h (k : Fin 4) := congrArg (fun T => (cred T : sProp 𝕄)) (credit_at c k)
  exact congrArg₂ _ (h 0) (congrArg₂ _ (h 2) (h 3))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begin_ m ρ c ∗ emp) := by
  iintro ⟨-, Hlev, Hcr, -, HG⟩
  ihave Hc := (credit_dealt (F := F) c) $$ Hcr
  imodintro
  unfold begin_ G'
  isplitl
  · isplitl [HG]; · iexact HG
    isplitl [Hc]; · iexact Hc
    iexact Hlev
  · iempintro

theorem enter (c : Dev nD) :
    iprop(begin_ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ someScr
  iintro ⟨Hs, -, Hr⟩
  isplitl [Hs] <;> iassumption

theorem leave (c : Dev nD) :
    (dats m ρ 0 c).Φ (Fin.last cfg0.N) ⊢ iprop(unscopedSems0 c ∗ Pipeline.ownSems0 scopedSm c ∗ Pipeline.scopedRest cfg0.spec c) := by
  rw [show (dats m ρ 0 c).Φ (Fin.last cfg0.N) = Φ₁ c from rfl, scopedRest0_eq, own_sems, barrier_sem]
  unfold Φ₁ someScr zeros
  iintro ⟨Hr, H0, H⟩
  isplitl [H0]; · iexact H0
  isplitl [H] <;> iassumption

theorem staging_waits (c : Dev nD) : (levAts L lv : sProp 𝕄) ⊢ Pipeline.cellsWaits cfgs (dats m ρ) () 0 c :=
  Pipeline.cellsWaits_intro cfgs (dats m ρ) () 0 c fun w s t =>
    wait_staging c _ (by fin_cases w <;> fin_cases s <;> decide) _ (by
      rcases t with ⟨_ | _, ht⟩
      · exact Or.inl rfl
      · exact Or.inr rfl)

/-! ## The run -/

/-- What window `w`'s array holds on device `c` after the run. -/
def final (c : Dev nD) (w : Fin cfg0.W) : Buf (Elt F) ((cfg0.win w).arr.view.loc (c : Thread nD τ)) := (dats m ρ 0 c).arrAt w cfg0.N

set_option maxRecDepth 8000 in
/-- The whole mesh's run, in the library's terms. -/
theorem run_arrays : θ_run defs (onTc (τ := τ) (main (F := F))) (start₀ m ρ) (fun r =>
    (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ scoped_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := staging_waits m ρ)
    (G := G m ρ) (G' := G' m ρ) (u₀ := u₀)
    (hu₀ := by
      unfold u₀
      iintro Hu
      ihave H := (ownU_pair _ _) $$ Hu
      icases H with ⟨HP, HX⟩
      imod (fund_events m ρ) $$ HX with HG
      imodintro
      isplitl [HP] <;> iassumption)
    (hglob := global_step m ρ)
    (hA := fun _ _ => rfl) (hpf := fun _ k => k.elim0)
    (X := begin_ m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_operand (c : Dev nD) : final m ρ c (0 : Fin 2) = m ((c : Thread nD τ).loc main_arg0) :=
  (dats (F := F) m ρ 0 c).arrAt_in (0 : Fin 2) rfl _

theorem block_eq (c : Dev nD) : block m ρ c = m ((c : Thread nD τ).loc main_arg0) :=
  funext fun i => by
    show m ((c : Thread nD τ).loc main_arg0) _ = m ((c : Thread nD τ).loc main_arg0) i
    refine congrArg _ (funext fun a => Fin.ext ?_)
    show 0 * _ + 1 * (i a).val = _
    omega

theorem result_read (c : Dev nD) : (dats m ρ 0 c).flushed (1 : Fin 2) t₀ = ((cfg0.win (1 : Fin 2)).blk t₀).view.read (Elt F) (result m ρ c) :=
  funext fun i => by
    show result m ρ c _ = result m ρ c _
    refine congrArg _ (funext fun a => Fin.ext ?_)
    show (i a).val = 0 * _ + 1 * (i a).val
    omega

theorem final_result (c : Dev nD) : final m ρ c (1 : Fin 2) = result m ρ c := by
  refine (dats (F := F) m ρ 0 c).arrAt_eq_of_cover (1 : Fin 2) (result m ρ c) (fun t _ => ?_) (fun i => ⟨t₀, by decide, ?_⟩)
  · obtain rfl := fin_N t
    exact result_read m ρ c
  · show i ∈ ((View.whole main_v1).slice ((cfg0.win (1 : Fin 2)).rect t₀)).set
    rw [View.set_slice_whole, Rect.mem_set_unit]
    intro a
    have h : (i a).val < (cfg0.win (1 : Fin 2)).shape.size a := (i a).isLt
    show 0 * _ ≤ (i a).val ∧ (i a).val < 0 * _ + _
    rw [Nat.zero_mul, Nat.zero_add]
    exact ⟨Nat.zero_le _, h⟩

/-- The kernel's run on the whole mesh, over any floats: it terminates, device `c` ends with the merge of its own local list and its
    partner's, its argument is what it was, and every counter ends at zero. -/
theorem run_main : θ_run defs (onTc (τ := τ) (main (F := F))) (start₀ m ρ) (fun r =>
    (∀ c : Dev nD, r.2.mem ((c : Thread nD τ).loc main_v1)
        = merged (localTop (m ((c : Thread nD τ).loc main_arg0))) (localTop (m ((partner c : Thread nD τ).loc main_arg0)))
      ∧ r.2.mem ((c : Thread nD τ).loc main_arg0) = m ((c : Thread nD τ).loc main_arg0)) ∧ r.2.sem = fun _ => 0) :=
  (θ_run _ _ _).mono (fun _ h => ⟨fun c => ⟨by
    have e := ((h.1 c (1 : Fin 2)).trans (final_result m ρ c))
    unfold result mine at e
    rw [block_eq, block_eq] at e
    exact e, (h.1 c (0 : Fin 2)).trans (final_operand m ρ c)⟩, h.2⟩) (run_arrays m ρ)

end Cert.TopK

end
-- ==== Proof.Order.lean ====
/-
# The j-th largest value of a family

Pure mathematics, no program. `Nth f j v` says that `v` is the value at place `j` (counted from zero) when the family `f`
is listed from the largest down, equal values listed as often as they occur. It is told by two counts, so it names one value.
The module proves what the kernel's two passes and the reference's sort do in these terms.
-/
module

public import Mathlib.Data.Fintype.Card
public import Mathlib.Data.Fintype.Sum
public import Mathlib.Data.Finset.Lattice.Fold
public import Mathlib.Order.Fin.Basic
public import Idealize.ShloMosaic.Lib.Pipeline.Value

@[expose] public section

namespace Cert.TopK

variable {α ι κ : Type} [LinearOrder α] [Fintype ι] [Fintype κ]

/-- At most `j` members exceed `v`, and more than `j` reach it. -/
def Nth (f : ι → α) (j : ℕ) (v : α) : Prop :=
  (Finset.univ.filter fun i => v < f i).card ≤ j ∧ j < (Finset.univ.filter fun i => v ≤ f i).card

/-- Further down the listing the values do not grow. -/
theorem Nth.antitone {f : ι → α} {j k : ℕ} {v w : α} (hv : Nth f j v) (hw : Nth f k w) (h : j ≤ k) : w ≤ v := by
  by_contra hn
  refine absurd (hw.2.trans_le ((Finset.card_le_card fun i hi => ?_).trans hv.1)) (not_lt.mpr h)
  simp only [Finset.mem_filter, Finset.mem_univ, true_and] at hi ⊢
  exact (not_le.mp hn).trans_le hi

/-- The j-th largest value is one value. -/
theorem Nth.unique {f : ι → α} {j : ℕ} {v w : α} (hv : Nth f j v) (hw : Nth f j w) : v = w :=
  le_antisymm (hw.antitone hv le_rfl) (hv.antitone hw le_rfl)

/-- It is a member. -/
theorem Nth.attained {f : ι → α} {j : ℕ} {v : α} (h : Nth f j v) : ∃ i, f i = v := by
  by_contra hn
  push Not at hn
  refine absurd (h.2.trans_le ((Finset.card_le_card fun i hi => ?_).trans h.1)) (lt_irrefl _)
  simp only [Finset.mem_filter, Finset.mem_univ, true_and] at hi ⊢
  exact lt_of_le_of_ne hi (hn i).symm

/-- The counts do not depend on how the members are named. -/
theorem Nth.congr {f : ι → α} {j : ℕ} {v : α} (e : κ ≃ ι) (h : Nth (f ∘ e) j v) : Nth f j v := by
  have hc (p : α → Prop) [DecidablePred p] :
      (Finset.univ.filter fun k => p (f (e k))).card = (Finset.univ.filter fun i => p (f i)).card := by
    rw [← Fintype.card_subtype, ← Fintype.card_subtype]
    exact Fintype.card_congr (e.subtypeEquiv fun _ => Iff.rfl)
  exact ⟨(hc fun a => v < a) ▸ h.1, (hc fun a => v ≤ a) ▸ h.2⟩

/-- A listing of all members from the largest down has the j-th largest at place `j`. -/
theorem nth_of_antitone {n : ℕ} {f : Fin n → α} (s : Equiv.Perm (Fin n)) (h : ∀ p q, p ≤ q → f (s q) ≤ f (s p)) (k : Fin n) :
    Nth f k (f (s k)) := by
  refine Nth.congr s ⟨?_, ?_⟩
  · refine (Finset.card_le_card (t := Finset.Iio k) fun p hp => ?_).trans_eq (Fin.card_Iio k)
    simp only [Finset.mem_filter, Finset.mem_univ, true_and, Function.comp] at hp
    exact Finset.mem_Iio.mpr (not_le.mp fun hle => absurd hp (not_lt.mpr (h k p hle)))
  · refine Nat.lt_of_lt_of_le (Nat.lt_succ_self _) (((Fin.card_Iic k).symm.le).trans (Finset.card_le_card fun p hp => ?_))
    simp only [Finset.mem_filter, Finset.mem_univ, true_and, Function.comp]
    exact h p k (Finset.mem_Iic.mp hp)

/-! ## The next value by a maximum over what lies below -/

section
variable [OrderBot α]

/-- The j-th largest at place zero is the maximum. -/
theorem nth_zero [Nonempty ι] (f : ι → α) : Nth f 0 (Finset.univ.sup f) := by
  obtain ⟨i, -, hi⟩ := Finset.exists_mem_eq_sup Finset.univ Finset.univ_nonempty f
  refine ⟨(Finset.card_eq_zero.mpr (Finset.filter_eq_empty_iff.mpr fun k hk => not_lt.mpr (Finset.le_sup hk))).le, ?_⟩
  exact Finset.card_pos.mpr ⟨i, by simp [hi]⟩

/-- If the (j+1)-st largest lies strictly below the j-th, then it is the maximum of the members below the j-th. -/
theorem sup_below {f : ι → α} {j : ℕ} {v w : α} (hv : Nth f j v) (hw : Nth f (j + 1) w) (hlt : w < v) :
    (Finset.univ.sup fun i => if f i < v then f i else ⊥) = w := by
  classical
  apply le_antisymm
  · refine Finset.sup_le fun i _ => ?_
    split
    · rename_i hi
      by_contra hn
      have hi' : i ∉ Finset.univ.filter fun i => v ≤ f i := by simpa using hi
      have hsub : insert i (Finset.univ.filter fun i => v ≤ f i) ⊆ Finset.univ.filter fun i => w < f i := fun k hk => by
        simp only [Finset.mem_insert, Finset.mem_filter, Finset.mem_univ, true_and] at hk ⊢
        rcases hk with rfl | hk
        · exact not_le.mp hn
        · exact hlt.trans_le hk
      have := Finset.card_le_card hsub
      rw [Finset.card_insert_of_notMem hi'] at this
      have h1 := hv.2; have h2 := hw.1
      omega
    · exact bot_le
  · obtain ⟨i, hi⟩ := hw.attained
    refine le_trans ?_ (Finset.le_sup (f := fun i => if f i < v then f i else ⊥) (Finset.mem_univ i))
    rw [if_pos (hi.trans_lt hlt), hi]

/-- So the pass that starts at the maximum and steps to the maximum of what lies below finds the `n` largest in order, when
    those are distinct. -/
theorem nth_pass [Nonempty ι] {f : ι → α} {n : ℕ} {w v : ℕ → α} (hw : ∀ j < n, Nth f j (w j)) (hd : ∀ j, j + 1 < n → w (j + 1) < w j)
    (h0 : v 0 = Finset.univ.sup f) (hs : ∀ j, v (j + 1) = Finset.univ.sup fun i => if f i < v j then f i else ⊥) :
    ∀ j < n, Nth f j (v j) := by
  intro j hj
  suffices v j = w j from this ▸ hw j hj
  induction j with
  | zero => rw [h0]; exact (nth_zero f).unique (hw 0 hj)
  | succ j ih => rw [hs, ih (by omega)]; exact sup_below (hw j (by omega)) (hw (j + 1) hj) (hd j hj)

/-! ## Striking out a maximum, again and again -/

/-- `x` is `g` with `j` members struck out (put to the bottom), none of them smaller than a member that stays. -/
def Struck (g : ι → α) (j : ℕ) (x : ι → α) : Prop :=
  ∃ S : Finset ι, S.card = j ∧ (∀ i ∈ S, x i = ⊥) ∧ (∀ i ∉ S, x i = g i) ∧ ∀ i ∈ S, ∀ k ∉ S, g k ≤ g i

theorem struck_zero (g : ι → α) : Struck g 0 g := ⟨∅, rfl, by simp, by simp, by simp⟩

/-- The maximum of what stays is the j-th largest. -/
theorem Struck.nth {g x : ι → α} {j : ℕ} (h : Struck g j x) (hj : j < Fintype.card ι) : Nth g j (Finset.univ.sup x) := by
  classical
  obtain ⟨S, hS, hb, hk, hd⟩ := h
  constructor
  · refine (Finset.card_le_card fun i hi => ?_).trans_eq hS
    simp only [Finset.mem_filter, Finset.mem_univ, true_and] at hi
    by_contra hn
    exact absurd (Finset.le_sup (f := x) (Finset.mem_univ i)) (not_le.mpr (hk i hn ▸ hi))
  · obtain ⟨k, hkS⟩ : ∃ k, k ∉ S := by
      by_contra hn; push Not at hn
      exact absurd (Finset.eq_univ_of_forall hn ▸ hS) (by rw [Finset.card_univ]; omega)
    obtain ⟨i, -, hi⟩ := Finset.exists_mem_eq_sup Finset.univ ⟨k, Finset.mem_univ k⟩ x
    obtain ⟨k, hkS, hle⟩ : ∃ k ∉ S, Finset.univ.sup x ≤ g k := by
      by_cases hiS : i ∈ S
      · exact ⟨k, hkS, by rw [hi, hb i hiS]; exact bot_le⟩
      · exact ⟨i, hiS, by rw [hi, hk i hiS]⟩
    have hsub : insert k S ⊆ Finset.univ.filter fun i => Finset.univ.sup x ≤ g i := fun l hl => by
      simp only [Finset.mem_insert, Finset.mem_filter, Finset.mem_univ, true_and] at hl ⊢
      rcases hl with rfl | hl
      · exact hle
      · exact hle.trans (hd l hl k hkS)
    have := Finset.card_le_card hsub
    rw [Finset.card_insert_of_notMem hkS, hS] at this
    omega

/-- Striking out one place that holds the maximum. -/
theorem Struck.strike [DecidableEq ι] {g x : ι → α} {j : ℕ} (h : Struck g j x) (hj : j < Fintype.card ι) {p : ι} (hp : x p = Finset.univ.sup x) :
    Struck g (j + 1) fun i => if i = p then ⊥ else x i := by
  obtain ⟨S, hS, hb, hk, hd⟩ := h
  have htop (k : ι) : x k ≤ x p := hp ▸ Finset.le_sup (Finset.mem_univ k)
  obtain ⟨q, hqS, hq⟩ : ∃ q ∉ S, x q = x p ∧ ((fun i => if i = p then ⊥ else x i) = fun i => if i = q then ⊥ else x i) := by
    by_cases hpS : p ∈ S
    · obtain ⟨q, hqS⟩ : ∃ k, k ∉ S := by
        by_contra hn; push Not at hn
        exact absurd (Finset.eq_univ_of_forall hn ▸ hS) (by rw [Finset.card_univ]; omega)
      have hz (k : ι) : x k = ⊥ := le_bot_iff.mp ((htop k).trans_eq (hb p hpS))
      exact ⟨q, hqS, (hz q).trans (hz p).symm, funext fun i => by simp only [hz]; split <;> split <;> rfl⟩
    · exact ⟨p, hpS, rfl, rfl⟩
  rw [hq.2]
  refine ⟨insert q S, by rw [Finset.card_insert_of_notMem hqS, hS], fun i hi => ?_, fun i hi => ?_, fun i hi k hkS => ?_⟩
  · rcases Finset.mem_insert.mp hi with rfl | hi
    · exact if_pos rfl
    · show (if i = q then ⊥ else x i) = ⊥
      split
      · rfl
      · exact hb i hi
  · rw [Finset.mem_insert, not_or] at hi
    exact (if_neg hi.1).trans (hk i hi.2)
  · rw [Finset.mem_insert, not_or] at hkS
    rcases Finset.mem_insert.mp hi with rfl | hi
    · have := htop k
      rwa [← hq.1, hk k hkS.2, hk i hqS] at this
    · exact hd i hi k hkS.2

end

/-! ## Two lists of the largest values of two families -/

/-- Of the `n` largest values of `f`, those above `v` are as many as the members above `v`, up to `n`. -/
theorem card_above {f : ι → α} {n : ℕ} {a : Fin n → α} (ha : ∀ j : Fin n, Nth f j (a j)) (v : α) :
    (Finset.univ.filter fun j => v < a j).card = min n (Finset.univ.filter fun i => v < f i).card := by
  have h (j : Fin n) : v < a j ↔ j.val < (Finset.univ.filter fun i => v < f i).card := by
    constructor
    · exact fun hv => (ha j).2.trans_le (Finset.card_le_card (Finset.monotone_filter_right _ fun i _ hi => hv.trans_le hi))
    · intro hj
      by_contra hn
      exact absurd (hj.trans_le (Finset.card_le_card (Finset.monotone_filter_right _ fun i _ hi => (not_lt.mp hn).trans_lt hi)))
        (not_lt.mpr (ha j).1)
  simp only [h, Fin.card_filter_val_lt]

/-- The same of those that reach `v`. -/
theorem card_reach {f : ι → α} {n : ℕ} {a : Fin n → α} (ha : ∀ j : Fin n, Nth f j (a j)) (v : α) :
    (Finset.univ.filter fun j => v ≤ a j).card = min n (Finset.univ.filter fun i => v ≤ f i).card := by
  have h (j : Fin n) : v ≤ a j ↔ j.val < (Finset.univ.filter fun i => v ≤ f i).card := by
    constructor
    · exact fun hv => (ha j).2.trans_le (Finset.card_le_card (Finset.monotone_filter_right _ fun i _ hi => hv.trans hi))
    · intro hj
      by_contra hn
      exact absurd (hj.trans_le (Finset.card_le_card (Finset.monotone_filter_right _ fun i _ hi => (not_le.mp hn).trans_le hi)))
        (not_lt.mpr (ha j).1)
  simp only [h, Fin.card_filter_val_lt]

/-- Counting over two families is counting over each. -/
theorem card_sum (f : ι → α) (g : κ → α) (p : α → Prop) [DecidablePred p] :
    (Finset.univ.filter fun i : ι ⊕ κ => p (Sum.elim f g i)).card
      = (Finset.univ.filter fun i => p (f i)).card + (Finset.univ.filter fun i => p (g i)).card := by
  simp only [← Fintype.card_subtype]
  rw [← Fintype.card_sum]
  exact Fintype.card_congr (Equiv.subtypeSum (p := fun c => p (Sum.elim f g c)))

/-- The j-th largest of the two lists together is the j-th largest of the two families together, for `j < n`. -/
theorem nth_merge {f : ι → α} {g : κ → α} {n : ℕ} {a b : Fin n → α} (ha : ∀ j : Fin n, Nth f j (a j)) (hb : ∀ j : Fin n, Nth g j (b j)) {j : ℕ} (hj : j < n)
    {v : α} (h : Nth (Sum.elim a b) j v) : Nth (Sum.elim f g) j v := by
  unfold Nth at h ⊢
  rw [card_sum a b (fun x => v < x), card_sum a b (fun x => v ≤ x), card_above ha, card_above hb, card_reach ha, card_reach hb] at h
  rw [card_sum f g (fun x => v < x), card_sum f g (fun x => v ≤ x)]
  omega

end Cert.TopK
-- ==== Proof.Sorted.lean ====
/-
# The host's sort and its reductions of bits, read

What the reference and the precondition take from the host's operations: a stable sort of a row leaves it ascending, the
comparator that first settles zeros and not-a-numbers is the plain comparison over the extended reals, and a conjunction over
an array is one exactly when every bit is.
-/
module

public import proofs.«01_k».proof.Proof.Order
public import Idealize.ShloMosaic.PureOps.Ideal
public import Idealize.ShloMosaic.Lib.SortFacts
public import Idealize.ShloMosaic.Lib.ValueIdxCore

@[expose] public section

namespace Cert.TopK

open Idealize.ShloMosaic Idealize.ShloMosaic.ValueIdx

/-- A one-bit word made from a truth value is one exactly when that is true. -/
theorem ofBool_eq_one {b : Bool} : BitVec.ofBool b = 1#1 ↔ b = true := by cases b <;> decide

/-- The comparator's way of settling zeros and not-a-numbers changes no extended real. -/
theorem settled (l z q : EReal) : Scalar.select (Ideal.cmp .une l l) q (Scalar.select (Ideal.cmp .oeq l z) z l) = l := by
  have h : Ideal.cmp .une l l = 0#1 := by simp [Ideal.cmp]
  rw [h, select_zero]
  by_cases hz : l = z
  · rw [hz, show Ideal.cmp .oeq z z = 1#1 by simp [Ideal.cmp], select_one]
  · rw [show Ideal.cmp .oeq l z = 0#1 by simp [Ideal.cmp, hz], select_zero]

/-- The "before" relation of the two sorts: the smaller key goes first. -/
theorem lt_bit (a b : EReal) : (Ideal.cmp .olt a b == 1#1) = decide (a < b) := by
  rw [Bool.eq_iff_iff]
  simp only [beq_iff_eq, decide_eq_true_eq, Ideal.cmp, ofBool_eq_one]

/-- The places a stable sort by the key takes its elements from: a rearrangement of all places. -/
noncomputable def order {n : ℕ} (key : Fin n → EReal) : Equiv.Perm (Fin n) :=
  Equiv.ofBijective (sortedFrom fun k k' => decide (key k < key k')) ⟨sortedFrom_injective _, sortedFrom_surjective _⟩

/-- Along it the keys ascend. -/
theorem order_le {n : ℕ} (key : Fin n → EReal) {p q : Fin n} (h : p ≤ q) : key (order key p) ≤ key (order key q) := by
  rcases h.eq_or_lt with rfl | h
  · exact le_rfl
  · have := sortedFrom_noInversion (fun k k' => decide (key k < key k')) (fun k k' => decide (key k < key k'))
      (fun a b h => by simpa using (of_decide_eq_true h).le) (fun _ _ h => h)
      (fun a b c h h' => by simp only [decide_eq_false_iff_not, not_lt] at h h' ⊢; exact h'.trans h) p q h
    exact not_lt.mp (of_decide_eq_false this)

/-- Sorted ascending, the j-th largest stands `j` places from the end. -/
theorem nth_ascending {n : ℕ} (row : Fin n → EReal) (i : Fin n) {j : ℕ} (hj : i.val = j) : Nth row j (row (order row (Fin.rev i))) :=
  hj ▸ nth_of_antitone (Fin.revPerm.trans (order row)) (fun _ _ h => order_le row (Fin.rev_le_rev.mpr h)) i

/-- Sorted ascending by the negated values, the j-th largest stands at place `j`. -/
theorem nth_negated {n : ℕ} (row : Fin n → EReal) (i : Fin n) {j : ℕ} (hj : i.val = j) :
    Nth row j (row (order (fun c => -row c) i)) :=
  hj ▸ nth_of_antitone (order fun c => -row c) (fun _ _ h => EReal.neg_le_neg_iff.mp (order_le (fun c => -row c) h)) i

/-- A place along the second axis of a rank-two index. -/
theorem along_ix2 {n m : ℕ} (a : Fin n) (b k : Fin m) :
    Shape.Idx.along (s := ⟨2, ![n, m]⟩) (ix2 a b) ⟨1, Nat.one_lt_two⟩ k = ix2 a k := by
  funext d
  match d with
  | ⟨0, _⟩ => rfl
  | ⟨1, _⟩ => rfl

/-- One array sorted along its rows, read: the element at the place the order takes it from. -/
theorem sort_apply {n m : ℕ} (cmp : EReal → EReal → BitVec 1) (hcmp : ∀ a b, cmp a b = Ideal.cmp .olt a b)
    (x : (⟨2, ![n, m]⟩ : Shape).Idx → EReal) (r : Fin n) (k : Fin m) :
    Host.sort ⟨2, ![n, m]⟩ 1 cmp x (ix2 r k) = x (ix2 r (order (fun c => x (ix2 r c)) k)) := by
  unfold Host.sort
  rw [dif_pos (show 1 < (⟨2, ![n, m]⟩ : Shape).rank from Nat.one_lt_two)]
  refine (congrArg x (along_ix2 r k _)).trans ?_
  refine congrArg (fun π : Fin m → Fin m → Bool => x (ix2 r (sortedFrom π k))) (funext fun a => funext fun b => ?_)
  rw [hcmp, lt_bit, decide_eq_decide]
  exact iff_of_eq (congrArg₂ (fun p q => x p < x q) (along_ix2 r k a) (along_ix2 r k b))

/-- The second of two arrays sorted together along their rows, read. -/
theorem sort2_apply {n m : ℕ} {β : Type} (cmp : EReal × β → EReal × β → BitVec 1) (hcmp : ∀ a b, cmp a b = Ideal.cmp .olt a.1 b.1)
    (x : (⟨2, ![n, m]⟩ : Shape).Idx → EReal) (y : (⟨2, ![n, m]⟩ : Shape).Idx → β) (r : Fin n) (k : Fin m) :
    (Host.sort2 ⟨2, ![n, m]⟩ 1 cmp x y).2 (ix2 r k) = y (ix2 r (order (fun c => x (ix2 r c)) k)) := by
  unfold Host.sort2
  rw [dif_pos (show 1 < (⟨2, ![n, m]⟩ : Shape).rank from Nat.one_lt_two)]
  refine (congrArg y (along_ix2 r k _)).trans ?_
  refine congrArg (fun π : Fin m → Fin m → Bool => y (ix2 r (sortedFrom π k))) (funext fun a => funext fun b => ?_)
  rw [hcmp, lt_bit, decide_eq_decide]
  exact iff_of_eq (congrArg₂ (fun p q => x p < x q) (along_ix2 r k a) (along_ix2 r k b))

/-! ## A conjunction over an array -/

/-- A conjunction of bits along a list is one exactly when the first and every listed bit is. -/
theorem foldl_andi {γ : Type} (f : γ → BitVec 1) (l : List γ) (a : BitVec 1) :
    l.foldl (fun r n => IntOp.andi r (f n)) a = 1#1 ↔ a = 1#1 ∧ ∀ n ∈ l, f n = 1#1 := by
  induction l generalizing a with
  | nil => simp
  | cons b l ih =>
    have h : ∀ a b : BitVec 1, IntOp.andi a b = 1#1 ↔ a = 1#1 ∧ b = 1#1 := by decide
    simp only [List.foldl_cons, ih, h, List.forall_mem_cons, and_assoc]

/-- The host's conjunction over some axes is one at an index exactly when every bit that reduces to the index is, the initial
    bit being one. -/
theorem reduce_andi {s t u : Shape} {axes : List (Fin s.rank)} (x : IVec s 1) (init : IVec u 1) (h : s.ReducesTo axes t)
    (hu : 0 < u.numel) (hi : ∀ i, init i = 1#1) (j : t.Idx) :
    Host.reduce IntOp.andi x init h hu j = 1#1 ↔ ∀ i, h.drop i = j → x i = 1#1 := by
  unfold Host.reduce
  rw [foldl_andi (fun n => x (s.rowMajor.symm n))]
  constructor
  · intro hx i hij
    have := hx.2 (s.rowMajor i) (by simp [hij])
    simpa using this
  · exact fun hx => ⟨hi _, fun n hn => hx _ (by simpa using hn)⟩

end Cert.TopK
-- ==== Proof.Precondition.lean ====
/-
# The precondition, read

`distinct_top` sorts each row of one device's block ascending and asks that the last sixteen strictly ascend. So each row has
sixteen largest values, and they strictly descend.
-/
module

public import proofs.«01_k».proof.Pre_distinct_top_KernelIdeal
public import proofs.«01_k».proof.Pre_distinct_top_ReferenceIdeal
public import proofs.«01_k».proof.Proof.Sorted

@[expose] public section

namespace Cert.TopK

open Idealize.ShloMosaic Idealize.ShloMosaic.ValueIdx

/-- The shape relations the precondition cites, at the kernel's shapes. -/
instance pre_kernel_facts : Cert.Pre_distinct_top_KernelIdeal.Facts where
  slices_S512x4096_S512x16_0_4080 := by decide
  slices_S512x16_S512x15_0_0 := by decide
  slices_S512x16_S512x15_0_1 := by decide
  reducesTo_S512x15_S_d0_1 := by decide
  h_S_ := by decide

/-- The same at the reference's shapes. -/
instance pre_reference_facts : Cert.Pre_distinct_top_ReferenceIdeal.Facts where
  slices_S512x8192_S512x16_0_8176 := by decide
  slices_S512x16_S512x15_0_0 := by decide
  slices_S512x16_S512x15_0_1 := by decide
  reducesTo_S512x15_S_d0_1 := by decide
  h_S_ := by decide

/-- A slice along the columns, read. -/
theorem slice_apply {n a b o : ℕ} {α : Type} (x : (⟨2, ![n, a]⟩ : Shape).Idx → α) (h : (⟨2, ![n, a]⟩ : Shape).Slices ![0, o] ⟨2, ![n, b]⟩)
    (r : Fin n) (c : Fin b) (hc : o + c.val < a) :
    extractStridedSlice ⟨2, ![n, b]⟩ ![0, o] x h (ix2 r c) = x (ix2 r ⟨o + c.val, hc⟩) :=
  extractStridedSlice_apply ![0, o] x h (ix2 r c) (ix2 r ⟨o + c.val, hc⟩) fun d => match d with
    | ⟨0, _⟩ => (Nat.zero_add _).symm
    | ⟨1, _⟩ => rfl

open Cert.Pre_distinct_top_KernelIdeal in
/-- Under the precondition every row of the block has sixteen largest values that strictly descend. -/
theorem distinct_rows (x : S512x4096.Idx → EReal) (h : fn (F := Ideal) x = fun _ => 1#1) (r : Fin 512) :
    ∃ w : ℕ → EReal, (∀ j < 16, Nth (fun c : Fin 4096 => x (ix2 r c)) j (w j)) ∧ ∀ j, j + 1 < 16 → w (j + 1) < w j := by
  set row : Fin 4096 → EReal := fun c => x (ix2 r c) with hrow
  refine ⟨fun j => row (order row (Fin.rev ⟨min j 4095, by omega⟩)), fun j hj => ?_, fun j hj => ?_⟩
  · exact nth_ascending row ⟨min j 4095, by omega⟩ (show min j 4095 = j by omega)
  · have hb := (reduce_andi (u := S_) _ _ _ Facts.h_S_ (fun _ => rfl) ix0).mp (congrFun h ix0) (ix2 r (⟨14 - j, by omega⟩ : Fin 15)) (eq_ix0 _)
    change Ideal.cmp .olt (extractStridedSlice (s := S512x16) S512x15 ![0, 0] _ _ _) (extractStridedSlice (s := S512x16) S512x15 ![0, 1] _ _ _) = 1#1 at hb
    rw [slice_apply _ _ _ _ (show 0 + (14 - j) < 16 by omega), slice_apply _ _ _ _ (show 1 + (14 - j) < 16 by omega)] at hb
    dsimp only at hb
    rw [slice_apply _ _ _ _ (show 4080 + (0 + (14 - j)) < 4096 by omega), slice_apply _ _ _ _ (show 4080 + (1 + (14 - j)) < 4096 by omega)] at hb
    unfold fn_sort at hb
    dsimp only at hb
    rw [sort_apply _ (fun a b => ?_), sort_apply _ (fun a b => ?_)] at hb
    · simp only [Ideal.cmp, ofBool_eq_one, decide_eq_true_eq] at hb
      have e (k : ℕ) (i : Fin 4096) (hk : k < 16) (hi : i.val + k = 4095) : Fin.rev ⟨min k 4095, by omega⟩ = i :=
        Fin.ext (by rw [Fin.val_rev]; show 4096 - (min k 4095 + 1) = i.val; omega)
      show row (order row (Fin.rev ⟨min (j + 1) 4095, by omega⟩)) < row (order row (Fin.rev ⟨min j 4095, by omega⟩))
      rw [e (j + 1) ⟨4080 + (0 + (14 - j)), by omega⟩ (by omega) (by show 4080 + (0 + (14 - j)) + (j + 1) = 4095; omega),
        e j ⟨4080 + (1 + (14 - j)), by omega⟩ (by omega) (by show 4080 + (1 + (14 - j)) + j = 4095; omega)]
      exact hb
    all_goals
      show Ideal.cmp .olt (Scalar.select (Ideal.cmp .une _ _) _ (Scalar.select (Ideal.cmp .oeq _ _) _ _))
        (Scalar.select (Ideal.cmp .une _ _) _ (Scalar.select (Ideal.cmp .oeq _ _) _ _)) = _
      rw [settled, settled]

end Cert.TopK
-- ==== Proof.Frames.lean ====
/-
# Both programs run and leave the machine at rest

The kernel's run (Run.lean) was proved over any floats, so one theorem serves both readings of its text: at the machine's
own words and at the extended reals. The reference has one device and no semaphore.
-/
module

public import proofs.«01_k».proof.Proof.Run
public import proofs.«01_k».proof.Proof.Precondition
public import proofs.«01_k».proof.Proof.Gen.Kernel
public import proofs.«01_k».proof.Proof.Gen.ReferenceIdeal.Run
public import proofs.«01_k».proof.Defs
public import Idealize.ShloMosaic.Lib.Quiescent

@[expose] public section

noncomputable section

namespace Cert.TopK

open Idealize.ShloMosaic
open Idealize.ShloMosaic.TcCoe
open Idealize.SL.Sem

section
variable {F : FTy → Type} [FloatOps F]

/-- The two printed kernels have one text, so one table of bodies, -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => exact rfl

/-- and one table of pipelines over it. -/
theorem tables_eq : Cert.Kernel.defs (F := F) = Cert.KernelIdeal.defs (F := F) := congrArg (Pipeline.defs _) bodies_eq

end

/-- The kernel at the machine's words runs, keeps its argument and leaves every counter at zero; -/
theorem frame_kernel : Cert.quiescent_Kernel := fun m ρ _ => by
  rw [tables_eq]
  exact (θ_run Cert.KernelIdeal.defs _ _).mono (fun _ h => ⟨fun c => (h.1 c).2, h.2⟩) (run_main (F := Bits) m ρ)

/-- so does its reading at the extended reals, -/
theorem frame_ideal : Cert.quiescent_KernelIdeal := fun m ρ _ =>
  (θ_run Cert.KernelIdeal.defs _ _).mono (fun _ h => ⟨fun c => (h.1 c).2, h.2⟩) (run_main (F := Ideal) m ρ)

/-- also from memories that meet the precondition; -/
theorem frame_ideal_pre : Cert.quiescent_KernelIdeal_pre_distinct_top_KernelIdeal := fun m ρ _ =>
  (θ_run Cert.KernelIdeal.defs _ _).mono (fun _ h => ⟨fun c => (h.1 c).2, h.2⟩) (run_main (F := Ideal) m ρ)

/-- and the reference. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- It too from memories that meet the precondition. -/
theorem frame_reference_pre : Cert.quiescent_ReferenceIdeal_pre_distinct_top_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.TopK

end
-- ==== Proof.Lists.lean ====
/-
# The two passes, as repeated steps

The kernel writes its two passes out, sixteen steps each. This module names one step of each and shows that the lists the
kernel computes are those steps repeated: the local pass takes the maximum of what lies below the value before, the merging
pass takes the maximum and strikes out the first place that attains it.
-/
module

public import proofs.«01_k».proof.Proof.Slots
public import Idealize.ShloMosaic.Lib.Pipeline.Value
public import Idealize.ShloMosaic.Lib.ValueIdxCore

@[expose] public section

noncomputable section

namespace Cert.TopK

open Cert.KernelIdeal Cert.KernelIdeal.Gen
open Idealize.ShloMosaic Idealize.ShloMosaic.ValueIdx

variable {F : FTy → Type} [FloatOps F]

/-- Sixteen columns side by side. -/
def columns (f : ℕ → FVec F S512x1 .f32) : FVec F S512x16 .f32 :=
  concatenate S512x16 1 (List.ofFn fun n : Fin 16 => (⟨S512x1, f n⟩ : (s : Shape) × (s.Idx → F .f32)))
    concatenates_S512x1_S512x1_S512x1_S512x1_S512x1_S512x1_S512x1_S512x1_S512x1_S512x1_S512x1_S512x1_S512x1_S512x1_S512x1_S512x1_S512x16_d1

/-- Column `j` of them. -/
theorem columns_apply (f : ℕ → FVec F S512x1 .f32) (r : Fin 512) (j : Fin 16) : columns f (ix2 r j) = f j (ix2 r 0) :=
  concatenate_ofFn_unit_apply (t := S512x16) (s₁ := S512x1) 1 (fun n : Fin 16 => f n) _ rfl rfl (ix2 r j) j rfl (ix2 r 0) fun b hb => by
    match b with
    | ⟨0, _⟩ => rfl
    | ⟨1, _⟩ => exact absurd rfl hb

/-! ## The local pass -/

/-- Each row's maximum. -/
def rowMax (x : FVec F S512x4096 .f32) : FVec F S512x1 .f32 :=
  shapeCast S512x1 (multiReduction .maximumf [1] S512 x 0xFF800000#32 reduces_S512x4096_S512 (.inl rfl) rfl) shapeCasts_S512_S512x1

/-- The elements below their row's `v`; the others put to the bottom. -/
def below (x : FVec F S512x4096 .f32) (v : FVec F S512x1 .f32) : FVec F S512x4096 .f32 :=
  select (cmpf .olt x (broadcastTo S512x4096 v broadcasts_S512x1_S512x4096)) x (broadcast S512x4096 (Scalar.ofBits .f32 0xFF800000#32))

/-- The values the local pass finds, one after another. -/
def localVals (x : FVec F S512x4096 .f32) : ℕ → FVec F S512x1 .f32
  | 0 => rowMax x
  | n + 1 => rowMax (below x (localVals x n))

/-- The kernel's local list is the first sixteen of them. -/
theorem localTop_eq (x : FVec F S512x4096 .f32) :
    localTop x = shapeCast S1x512x16 (columns (localVals x)) shapeCasts_S512x16_S1x512x16 := by
  have h1 : k0_pay1 x = x := shapeCast_self x _
  have h2 : k0_pay2 x = localVals x 0 := congrArg rowMax h1
  have h3 : k0_pay3 x = localVals x 1 := (congrArg₂ (fun a b => rowMax (below a b)) h1 h2 :)
  have h4 : k0_pay4 x = localVals x 2 := (congrArg₂ (fun a b => rowMax (below a b)) h1 h3 :)
  have h5 : k0_pay5 x = cmpf .olt x (broadcastTo S512x4096 (localVals x 2) broadcasts_S512x1_S512x4096) :=
    (congrArg₂ (fun a b => cmpf .olt a (broadcastTo S512x4096 b broadcasts_S512x1_S512x4096)) h1 h4 :)
  unfold localTop
  dsimp only
  rw [h1, h2, h3, h4, h5]
  rfl

/-! ## The merging pass -/

/-- Each row's maximum of the two lists side by side. -/
def pick (x : FVec F S512x32 .f32) : FVec F S512x1 .f32 :=
  shapeCast S512x1 (multiReduction .maximumf [1] S512 x 0xFF800000#32 reduces_S512x32_S512 (.inl rfl) rfl) shapeCasts_S512_S512x1

/-- The places' numbers along each row. -/
def lanes : IVec S512x32 32 := iota .tc S512x32 32 [1] iota_S512x32_d1_w32

/-- The places that attain their row's maximum. -/
def hits (x : FVec F S512x32 .f32) : IVec S512x32 1 := cmpf .oeq x (broadcastTo S512x32 (pick x) broadcasts_S512x1_S512x32)

/-- The numbers of the marked places, the others put past the last. -/
def marked (m : IVec S512x32 1) : IVec S512x32 32 := select m lanes (broadcast S512x32 32#32)

/-- Each row's least such number, at every place of the row. -/
def least (q : IVec S512x32 32) : IVec S512x32 32 :=
  broadcastTo S512x32 (shapeCast S512x1 (multiReductionI .minsi [1] S512 q 2147483647#32 reduces_S512x32_S512 rfl) shapeCasts_S512_S512x1)
    broadcasts_S512x1_S512x32

/-- The place struck out of each row. -/
def first (x : FVec F S512x32 .f32) : IVec S512x32 1 := cmpi .eq lanes (least (marked (hits x)))

/-- The marked places put to the bottom. -/
def clear (q : IVec S512x32 1) (x : FVec F S512x32 .f32) : FVec F S512x32 .f32 :=
  select q (broadcast S512x32 (Scalar.ofBits .f32 0xFF800000#32)) x

/-- One step of the merging pass: the first place that attains the maximum struck out. -/
def strike (x : FVec F S512x32 .f32) : FVec F S512x32 .f32 := clear (first x) x

/-- The steps repeated. -/
def strikes (x : FVec F S512x32 .f32) : ℕ → FVec F S512x32 .f32
  | 0 => x
  | n + 1 => strike (strikes x n)

/-- The last six columns of the merged list: each of the last steps from the one before. -/
theorem pay42_eq (x : FVec F S512x32 .f32) (v : ℕ → FVec F S512x1 .f32)
    (hv : ∀ n, 12 ≤ n → v n = pick (strikes x n)) (x11 : FVec F S512x32 .f32) (hx : x11 = strikes x 11) :
    k0_pay42 lanes (v 0) (v 1) (v 2) (v 3) (v 4) (v 5) (v 6) (v 7) (v 8) (v 9) (v 10) x11 (v 11) (marked (hits x11)) = columns v := by
  have h12 := hv 12 (by omega)
  have h13 := hv 13 (by omega)
  have h14 := hv 14 (by omega)
  have h15 := hv 15 (by omega)
  have e12 : strikes x 12 = strike x11 := by rw [hx]; rfl
  have e13 : strikes x 13 = strike (strike x11) := by rw [hx]; rfl
  have e14 : strikes x 14 = strike (strike (strike x11)) := by rw [hx]; rfl
  have e15 : strikes x 15 = strike (strike (strike (strike x11))) := by rw [hx]; rfl
  rw [e12] at h12; rw [e13] at h13; rw [e14] at h14; rw [e15] at h15
  have hc : columns v = concatenate S512x16 1 [⟨S512x1, v 0⟩, ⟨S512x1, v 1⟩, ⟨S512x1, v 2⟩, ⟨S512x1, v 3⟩, ⟨S512x1, v 4⟩, ⟨S512x1, v 5⟩,
      ⟨S512x1, v 6⟩, ⟨S512x1, v 7⟩, ⟨S512x1, v 8⟩, ⟨S512x1, v 9⟩, ⟨S512x1, v 10⟩, ⟨S512x1, v 11⟩, ⟨S512x1, v 12⟩, ⟨S512x1, v 13⟩,
      ⟨S512x1, v 14⟩, ⟨S512x1, v 15⟩]
      concatenates_S512x1_S512x1_S512x1_S512x1_S512x1_S512x1_S512x1_S512x1_S512x1_S512x1_S512x1_S512x1_S512x1_S512x1_S512x1_S512x1_S512x16_d1 := rfl
  rw [hc, h12, h13, h14, h15]
  rfl

/-- The kernel's merged list is the maxima along the steps. -/
theorem merged_eq (a b : FVec F S1x512x16 .f32) : merged a b = columns fun n => pick (strikes (k0_pay15 a b) n) := by
  set x := k0_pay15 a b with hx
  have h17 : k0_pay17 a b = hits x := rfl
  have h18 : k0_pay18 x lanes (hits x) = strikes x 1 := rfl
  have h20 : k0_pay20 x lanes (hits x) = strikes x 2 := (congrArg strike h18 :)
  have h22 : k0_pay22 x lanes (hits x) = strikes x 3 := (congrArg strike h20 :)
  have h24 : k0_pay24 x lanes (hits x) = strikes x 4 := (congrArg strike h22 :)
  have h26 : k0_pay26 lanes (strikes x 4) = strikes x 5 := rfl
  have h28 : k0_pay28 lanes (strikes x 4) = strikes x 6 := (congrArg strike h26 :)
  have h30 : k0_pay30 lanes (strikes x 4) = strikes x 7 := (congrArg strike h28 :)
  have h32 : k0_pay32 lanes (strikes x 4) = first (strikes x 7) := (congrArg first h30 :)
  have h33 : k0_pay33 (strikes x 7) (first (strikes x 7)) = strikes x 8 := rfl
  have h35 : k0_pay35 lanes (strikes x 7) (first (strikes x 7)) = strikes x 9 := (congrArg strike h33 :)
  have h37 : k0_pay37 lanes (strikes x 7) (first (strikes x 7)) = strikes x 10 := (congrArg strike h35 :)
  have h39 : k0_pay39 lanes (strikes x 7) (first (strikes x 7)) = strikes x 11 := (congrArg strike h37 :)
  have h41 : k0_pay41 lanes (strikes x 7) (first (strikes x 7)) = marked (hits (strikes x 11)) := (congrArg (fun y => marked (hits y)) h39 :)
  have h16 : k0_pay16 a b = pick (strikes x 0) := rfl
  have h19 : k0_pay19 x lanes (hits x) = pick (strikes x 1) := (congrArg pick h18 :)
  have h21 : k0_pay21 x lanes (hits x) = pick (strikes x 2) := (congrArg pick h20 :)
  have h23 : k0_pay23 x lanes (hits x) = pick (strikes x 3) := (congrArg pick h22 :)
  have h25 : k0_pay25 (strikes x 4) = pick (strikes x 4) := rfl
  have h27 : k0_pay27 lanes (strikes x 4) = pick (strikes x 5) := (congrArg pick h26 :)
  have h29 : k0_pay29 lanes (strikes x 4) = pick (strikes x 6) := (congrArg pick h28 :)
  have h31 : k0_pay31 lanes (strikes x 4) = pick (strikes x 7) := (congrArg pick h30 :)
  have h34 : k0_pay34 (strikes x 7) (first (strikes x 7)) = pick (strikes x 8) := (congrArg pick h33 :)
  have h36 : k0_pay36 lanes (strikes x 7) (first (strikes x 7)) = pick (strikes x 9) := (congrArg pick h35 :)
  have h38 : k0_pay38 lanes (strikes x 7) (first (strikes x 7)) = pick (strikes x 10) := (congrArg pick h37 :)
  have h40 : k0_pay40 lanes (strikes x 7) (first (strikes x 7)) = pick (strikes x 11) := (congrArg pick h39 :)
  unfold merged
  dsimp only
  rw [← hx, show iota .tc S512x32 32 [1] iota_S512x32_d1_w32 = lanes from rfl, h17, h24, h30, h32, h16, h19, h21, h23, h25, h27, h29, h31, h34, h36,
    h38, h39, h40, h41]
  exact pay42_eq x (fun n => pick (strikes x n)) (fun _ _ => rfl) _ rfl

end Cert.TopK
-- ==== Proof.Rows.lean ====
/-
# The kernel's lists at the extended reals, row by row

A step of either pass acts on each row by itself. Read at the extended reals a row's maximum is its supremum, the step of the
local pass leaves what lies below the value before, and the step of the merging pass puts one place that attains the maximum
to the bottom. So the steps are those of Order.lean.
-/
module

public import proofs.«01_k».proof.Proof.Lists
public import proofs.«01_k».proof.Proof.Precondition
public import Idealize.ShloMosaic.PureOps.Ideal.Laws

@[expose] public section

noncomputable section

namespace Cert.TopK

open Cert.KernelIdeal Cert.KernelIdeal.Gen
open Idealize.ShloMosaic Idealize.ShloMosaic.ValueIdx

/-! ## The operations on a row -/

/-- The word of minus infinity is the bottom. -/
theorem bottom : (FloatOps.ofBits (F := Ideal) .f32 0xFF800000#32 : EReal) = ⊥ := by
  show Ideal.ofBits .f32 0xFF800000#32 = ⊥
  simp [Ideal.ofBits, Ideal.ieee]

/-- A column spread over the row. -/
theorem spread_apply {n m : ℕ} {α : Type} (v : (⟨2, ![n, 1]⟩ : Shape).Idx → α) (h : (⟨2, ![n, 1]⟩ : Shape).Broadcasts ⟨2, ![n, m]⟩)
    (r : Fin n) (c : Fin m) : broadcastTo ⟨2, ![n, m]⟩ v h (ix2 r c) = v (ix2 r 0) :=
  broadcastTo_apply v h (ix2 r c) (ix2 r 0) fun a => match a with
    | ⟨0, _⟩ => by
      show r.val = if n = 1 then 0 else r.val
      split
      · have := r.isLt; omega
      · rfl
    | ⟨1, _⟩ => rfl

/-- A vector stood up as a column. -/
theorem stand_apply {n : ℕ} {α : Type} (v : (⟨1, ![n]⟩ : Shape).Idx → α) (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- The index a row's reduction reads. -/
theorem lift_ix2 {n m : ℕ} (h : (⟨2, ![n, m]⟩ : Shape).Reduces [1] ⟨1, ![n]⟩) (r : Fin n) (k : Fin m) : h.lift (ix1 r) k = ix2 r k := by
  funext d
  match d with
  | ⟨0, _⟩ => rfl
  | ⟨1, _⟩ => rfl

/-- A row's maximum is its supremum. -/
theorem max_apply {n m : ℕ} (x : FVec Ideal ⟨2, ![n, m]⟩ .f32) (h : (⟨2, ![n, m]⟩ : Shape).Reduces [1] ⟨1, ![n]⟩) (hφ : FKind.Formats .f32)
    (hacc : 0xFF800000#32 = FKind.maximumf.neutral .f32 hφ) (r : Fin n) :
    multiReduction .maximumf [1] ⟨1, ![n]⟩ x 0xFF800000#32 h hφ hacc (ix1 r) = Finset.univ.sup fun c : Fin m => (x (ix2 r c) : EReal) := by
  rw [Ideal.multiReduction_maximumf_single, bottom, Finset.sup_def, Finset.fold]
  rw [Multiset.sup]
  refine congrArg (Multiset.fold _ _) (Multiset.map_congr rfl fun k _ => ?_)
  exact congrArg x (lift_ix2 h r k)

/-- A least word is the starting word or a member, and is above none of them. -/
theorem fold_minsi {κ : Type} (f : κ → BitVec 32) (init : BitVec 32) (s : Finset κ) :
    (s.fold IntOp.minsi init f = init ∨ ∃ k ∈ s, s.fold IntOp.minsi init f = f k)
      ∧ (s.fold IntOp.minsi init f).toInt ≤ init.toInt ∧ ∀ k ∈ s, (s.fold IntOp.minsi init f).toInt ≤ (f k).toInt := by
  classical
  induction s using Finset.induction_on with
  | empty => simp
  | insert a s ha ih =>
    rw [Finset.fold_insert ha]
    obtain ⟨h1, h2, h3⟩ := ih
    simp only [IntOp.minsi, BitVec.slt_iff_toInt_lt]
    split
    · rename_i hlt
      refine ⟨.inr ⟨a, Finset.mem_insert_self _ _, rfl⟩, by omega, fun k hk => ?_⟩
      rcases Finset.mem_insert.mp hk with rfl | hk
      · exact le_rfl
      · have := h3 k hk; omega
    · rename_i hlt
      refine ⟨h1.imp id fun ⟨k, hk, e⟩ => ⟨k, Finset.mem_insert_of_mem hk, e⟩, h2, fun k hk => ?_⟩
      rcases Finset.mem_insert.mp hk with rfl | hk
      · omega
      · exact h3 k hk

/-- A row's least word, as that fold. -/
theorem min_apply {n m : ℕ} (q : IVec ⟨2, ![n, m]⟩ 32) (init : BitVec 32) (h : (⟨2, ![n, m]⟩ : Shape).Reduces [1] ⟨1, ![n]⟩)
    (hacc : init = IKind.minsi.neutral) (r : Fin n) :
    multiReductionI .minsi [1] ⟨1, ![n]⟩ q init h hacc (ix1 r) = (Finset.univ : Finset (Fin m)).fold IntOp.minsi init fun c => q (ix2 r c) := by
  classical
  rw [multiReductionI_eq_fold]
  refine (h.fold_filter_drop_single IntOp.minsi init q (ix1 r)).trans ?_
  exact Finset.fold_congr fun k _ => congrArg q (lift_ix2 h r k)

/-! ## The local pass -/

/-- The first value is the row's supremum, -/
theorem rowMax_apply (x : FVec Ideal S512x4096 .f32) (r : Fin 512) : rowMax x (ix2 r 0) = Finset.univ.sup fun c : Fin 4096 => (x (ix2 r c) : EReal) :=
  (stand_apply _ shapeCasts_S512_S512x1 r).trans (max_apply x reduces_S512x4096_S512 (.inl rfl) rfl r)

/-- what lies below a value stays, -/
theorem below_apply (x : FVec Ideal S512x4096 .f32) (v : FVec Ideal S512x1 .f32) (r : Fin 512) (c : Fin 4096) :
    below x v (ix2 r c) = if (x (ix2 r c) : EReal) < v (ix2 r 0) then x (ix2 r c) else (⊥ : EReal) := by
  show Scalar.select (Ideal.cmp .olt (x (ix2 r c)) (broadcastTo S512x4096 v broadcasts_S512x1_S512x4096 (ix2 r c))) (x (ix2 r c))
    (FloatOps.ofBits (F := Ideal) .f32 0xFF800000#32) = _
  rw [bottom, spread_apply v broadcasts_S512x1_S512x4096 r c]
  split
  · rename_i h
    rw [show Ideal.cmp .olt (x (ix2 r c)) (v (ix2 r 0)) = 1#1 from ofBool_eq_one.mpr (decide_eq_true h), select_one]
  · rename_i h
    rw [show Ideal.cmp .olt (x (ix2 r c)) (v (ix2 r 0)) = 0#1 from eq_zero_of_ne_one fun e => h (of_decide_eq_true (ofBool_eq_one.mp e)), select_zero]

/-- and so the pass finds a row's sixteen largest values where they strictly descend. -/
theorem localVals_nth (x : FVec Ideal S512x4096 .f32) (r : Fin 512) (w : ℕ → EReal) (hw : ∀ j < 16, Nth (fun c : Fin 4096 => x (ix2 r c)) j (w j))
    (hd : ∀ j, j + 1 < 16 → w (j + 1) < w j) : ∀ j < 16, Nth (fun c : Fin 4096 => x (ix2 r c)) j (localVals x j (ix2 r 0)) :=
  nth_pass hw hd (rowMax_apply x r) fun j => (rowMax_apply (below x (localVals x j)) r).trans
    (Finset.sup_congr rfl fun c _ => below_apply x (localVals x j) r c)

/-- The local list of a block that meets the precondition lists each row's sixteen largest values. -/
theorem localTop_nth (x : FVec Ideal S512x4096 .f32) (h : Cert.Pre_distinct_top_KernelIdeal.fn (F := Ideal) x = fun _ => 1#1) (r : Fin 512) (j : Fin 16) :
    Nth (fun c : Fin 4096 => x (ix2 r c)) j (localTop x (ix3 0 r j)) := by
  obtain ⟨w, hw, hd⟩ := distinct_rows x h r
  rw [localTop_eq]
  have e : shapeCast S1x512x16 (columns (localVals x)) shapeCasts_S512x16_S1x512x16 (ix3 0 r j) = localVals x j (ix2 r 0) :=
    (shapeCast_addUnit_apply ![512, 16] (columns (localVals x)) shapeCasts_S512x16_S1x512x16 (ix3 0 r j)).trans
      ((congrArg (columns (localVals x)) (eq_ix2 _)).trans (columns_apply (localVals x) r j))
  rw [e]
  exact localVals_nth x r w hw hd j j.isLt

/-! ## The merging pass -/

/-- A row's maximum of the two lists side by side. -/
theorem pick_apply (x : FVec Ideal S512x32 .f32) (r : Fin 512) : pick x (ix2 r 0) = Finset.univ.sup fun c : Fin 32 => (x (ix2 r c) : EReal) :=
  (stand_apply _ shapeCasts_S512_S512x1 r).trans (max_apply x reduces_S512x32_S512 (.inl rfl) rfl r)

/-- A place's number. -/
theorem lanes_apply (r : Fin 512) (c : Fin 32) : lanes (ix2 r c) = BitVec.ofNat 32 c.val := by
  show BitVec.ofNat 32 (0 * 32 + c.val) = _
  rw [Nat.zero_mul, Nat.zero_add]

/-- The number of a place that attains the maximum; 32 at the others. -/
theorem marked_apply (x : FVec Ideal S512x32 .f32) (r : Fin 512) (c : Fin 32) :
    marked (hits x) (ix2 r c) = if (x (ix2 r c) : EReal) = Finset.univ.sup (fun c : Fin 32 => (x (ix2 r c) : EReal)) then BitVec.ofNat 32 c.val else 32#32 := by
  show Scalar.select (Ideal.cmp .oeq (x (ix2 r c)) (broadcastTo S512x32 (pick x) broadcasts_S512x1_S512x32 (ix2 r c))) (lanes (ix2 r c)) 32#32 = _
  rw [spread_apply (pick x) broadcasts_S512x1_S512x32 r c, pick_apply, lanes_apply]
  split
  · rename_i h
    rw [show Ideal.cmp .oeq (x (ix2 r c)) _ = 1#1 from ofBool_eq_one.mpr (decide_eq_true h), select_one]
  · rename_i h
    rw [show Ideal.cmp .oeq (x (ix2 r c)) _ = 0#1 from eq_zero_of_ne_one fun e => h (of_decide_eq_true (ofBool_eq_one.mp e)), select_zero]

/-- A place's number, as an integer. -/
theorem toInt_place (c : Fin 32) : (BitVec.ofNat 32 c.val).toInt = c.val := by revert c; decide

/-- Two places' numbers compared. -/
theorem same_place (c p : Fin 32) : IntOp.cmpi .eq (BitVec.ofNat 32 c.val) (BitVec.ofNat 32 p.val) = BitVec.ofBool (decide (c = p)) := by
  revert c p; decide

/-- The least number marked is that of a place attaining the maximum. -/
theorem least_apply (x : FVec Ideal S512x32 .f32) (r : Fin 512) :
    ∃ p : Fin 32, x (ix2 r p) = Finset.univ.sup (fun c : Fin 32 => (x (ix2 r c) : EReal)) ∧ ∀ c, least (marked (hits x)) (ix2 r c) = BitVec.ofNat 32 p.val := by
  obtain ⟨p, -, hp⟩ := Finset.exists_mem_eq_sup Finset.univ Finset.univ_nonempty fun c : Fin 32 => (x (ix2 r c) : EReal)
  have hl (c : Fin 32) : least (marked (hits x)) (ix2 r c) = Finset.univ.fold IntOp.minsi 2147483647#32 fun c : Fin 32 => marked (hits x) (ix2 r c) :=
    (spread_apply _ broadcasts_S512x1_S512x32 r c).trans ((stand_apply _ shapeCasts_S512_S512x1 r).trans (min_apply _ _ reduces_S512x32_S512 rfl r))
  obtain ⟨h1, -, h3⟩ := fold_minsi (fun c : Fin 32 => marked (hits x) (ix2 r c)) 2147483647#32 Finset.univ
  generalize Finset.univ.fold IntOp.minsi 2147483647#32 (fun c : Fin 32 => marked (hits x) (ix2 r c)) = w at hl h1 h3
  have hw : w.toInt < 32 := by
    have := h3 p (Finset.mem_univ p)
    rw [marked_apply, if_pos hp.symm, toInt_place] at this
    have := p.isLt
    omega
  rcases h1 with h | ⟨q, -, h⟩
  · rw [h] at hw; exact absurd hw (by decide)
  · rw [marked_apply] at h
    split at h
    · rename_i hq
      exact ⟨q, hq, fun c => (hl c).trans h⟩
    · rw [h] at hw; exact absurd hw (by decide)

/-- A step puts one place that attains the maximum to the bottom. -/
theorem strike_apply (x : FVec Ideal S512x32 .f32) (r : Fin 512) :
    ∃ p : Fin 32, x (ix2 r p) = Finset.univ.sup (fun c : Fin 32 => (x (ix2 r c) : EReal))
      ∧ (fun c => strike x (ix2 r c)) = fun c => if c = p then (⊥ : EReal) else x (ix2 r c) := by
  obtain ⟨p, hp, hl⟩ := least_apply x r
  refine ⟨p, hp, funext fun c => ?_⟩
  show Scalar.select (IntOp.cmpi .eq (lanes (ix2 r c)) (least (marked (hits x)) (ix2 r c))) (FloatOps.ofBits (F := Ideal) .f32 0xFF800000#32) (x (ix2 r c)) = _
  rw [bottom, hl, lanes_apply]
  rw [same_place]
  split
  · rename_i h; rw [decide_eq_true h]; exact select_one _ _
  · rename_i h; rw [decide_eq_false h]; exact select_zero _ _

/-- After `j` steps `j` members are struck, none smaller than one that stays. -/
theorem strikes_struck (x : FVec Ideal S512x32 .f32) (r : Fin 512) :
    ∀ j ≤ 32, Struck (fun c : Fin 32 => (x (ix2 r c) : EReal)) j fun c => strikes x j (ix2 r c)
  | 0, _ => struck_zero _
  | j + 1, hj => by
    obtain ⟨p, hp, e⟩ := strike_apply (strikes x j) r
    show Struck _ (j + 1) fun c => strike (strikes x j) (ix2 r c)
    rw [e]
    exact (strikes_struck x r j (by omega)).strike (by rw [Fintype.card_fin]; omega) hp

/-- Places of the two lists, as places side by side. -/
def places : Fin 16 ⊕ Fin 16 ≃ Fin 32 := finSumFinEquiv

/-- The two lists side by side. -/
theorem joined_apply {F : FTy → Type} [FloatOps F] (a b : FVec F S1x512x16 .f32) (r : Fin 512) (s : Fin 16 ⊕ Fin 16) :
    k0_pay15 a b (ix2 r (places s)) = Sum.elim (fun j : Fin 16 => a (ix3 0 r j)) (fun j : Fin 16 => b (ix3 0 r j)) s := by
  have hs (v : FVec F S1x512x16 .f32) (j : Fin 16) : shapeCast S512x16 v shapeCasts_S1x512x16_S512x16 (ix2 r j) = v (ix3 0 r j) :=
    (shapeCast_dropUnit_apply ![512, 16] v shapeCasts_S1x512x16_S512x16 (ix2 r j)).trans (congrArg v (eq_ix3 _))
  match s with
  | .inl j =>
    refine (concatenate_pair_apply_left (t := S512x32) (s₁ := S512x16) (s₂ := S512x16) 1 _ _ concatenates_S512x16_S512x16_S512x32_d1
      (ix2 r (places (.inl j))) rfl (ix2 r j) fun d => ?_).trans (hs a j)
    match d with
    | ⟨0, _⟩ => rfl
    | ⟨1, _⟩ => rfl
  | .inr j =>
    refine (concatenate_pair_apply_right (t := S512x32) (s₁ := S512x16) (s₂ := S512x16) 1 _ _ concatenates_S512x16_S512x16_S512x32_d1
      (ix2 r (places (.inr j))) rfl rfl (ix2 r j) (fun d hd => ?_) ?_).trans (hs b j)
    · match d with
      | ⟨0, _⟩ => rfl
      | ⟨1, _⟩ => exact absurd rfl hd
    · show j.val + 16 = 16 + j.val
      omega

/-- The merged list lists the sixteen largest values of two rows together, given the sixteen largest of each. -/
theorem merged_nth {ι κ : Type} [Fintype ι] [Fintype κ] (a b : FVec Ideal S1x512x16 .f32) (r : Fin 512) {f : ι → EReal} {g : κ → EReal}
    (ha : ∀ j : Fin 16, Nth f j (a (ix3 0 r j))) (hb : ∀ j : Fin 16, Nth g j (b (ix3 0 r j))) (j : Fin 16) :
    Nth (Sum.elim f g) j (merged a b (ix2 r j)) := by
  have h : Nth (fun c : Fin 32 => (k0_pay15 (F := Ideal) a b (ix2 r c) : EReal)) j (merged a b (ix2 r j)) := by
    rw [merged_eq, columns_apply, pick_apply]
    have hj := j.isLt
    exact (strikes_struck (k0_pay15 (F := Ideal) a b) r j (by omega)).nth (by rw [Fintype.card_fin]; omega)
  refine nth_merge ha hb j.isLt (Nth.congr places.symm ?_)
  convert h using 1
  funext c
  obtain ⟨s, rfl⟩ := places.surjective c
  rw [Function.comp, Equiv.symm_apply_apply]
  exact (joined_apply a b r s).symm

end Cert.TopK
-- ==== Proof.Reference.lean ====
/-
# The reference, read

Row by row, the reference's result holds at column `j` the j-th largest value of the row of its argument. The sort of the
negated row gives the columns in that order; the words they are written as lie in range, so the lookup's wrapping and its mask
change nothing, and the lookup reads the row at those columns.
-/
module

public import proofs.«01_k».proof.Proof.Gen.ReferenceIdeal.Read
public import proofs.«01_k».proof.Proof.Sorted

@[expose] public section

namespace Cert.TopK

open Idealize.ShloMosaic Idealize.ShloMosaic.ValueIdx Cert.ReferenceIdeal Cert.ReferenceIdeal.Gen Cert.ReferenceIdeal.Read

/-- The column the reference looks up at place `j` of row `r`. -/
noncomputable def column (x : S512x8192.Idx → EReal) (r : Fin 512) : Equiv.Perm (Fin 8192) :=
  order fun c => -x (ix2 r c)

/-- A word naming a column is that column, read as a signed number. -/
theorem toInt_word {k : ℕ} (h : k < 8192) : (BitVec.ofNat 32 k).toInt = k := by
  rw [BitVec.toInt_eq_toNat_cond, BitVec.toNat_ofNat, Nat.mod_eq_of_lt (by omega), if_pos (by omega)]

/-- The sorted column numbers. -/
theorem v1_row (x : S512x8192.Idx → EReal) (r : Fin 512) (k : Fin 8192) :
    val_main_v1 (F := Ideal) x (ix2 r k) = BitVec.ofNat 32 (column x r k).val := by
  unfold val_main_v1
  rw [sort2_apply _ fun a b => ?_]
  · exact val_main_call0_v0_apply _
  · show Ideal.cmp .olt (Scalar.select (Ideal.cmp .une _ _) _ (Scalar.select (Ideal.cmp .oeq _ _) _ _))
      (Scalar.select (Ideal.cmp .une _ _) _ (Scalar.select (Ideal.cmp .oeq _ _) _ _)) = _
    rw [settled, settled]

/-- The start index at place `j` of row `r`: not negative, so not wrapped. -/
theorem v5_row (x : S512x8192.Idx → EReal) (r : Fin 512) (j : Fin 16) (z : Fin 1) :
    val_main_call1_v5 (F := Ideal) x (ix3 r j z) = BitVec.ofNat 32 (column x r ⟨j.val, by omega⟩).val := by
  have hi : idx_main_call1_v5 (ix3 r j z) = ix2 r j := by
    have hj := j.isLt; have hz := z.isLt
    funext d
    match d with
    | ⟨0, _⟩ => exact Fin.ext (show ((r.val * 16 + j.val) * 1 + z.val) / 16 = r.val by omega)
    | ⟨1, _⟩ => exact Fin.ext (show ((r.val * 16 + j.val) * 1 + z.val) % 16 = j.val by omega)
  have h2 : val_main_v2 (F := Ideal) x (ix2 r j) = BitVec.ofNat 32 (column x r ⟨j.val, by omega⟩).val := by
    have e : idx_main_v2 (ix2 r j) = ix2 r (⟨j.val, by omega⟩ : Fin 8192) := by
      funext d
      match d with
      | ⟨0, _⟩ => rfl
      | ⟨1, _⟩ => rfl
    rw [val_main_v2_apply, e, v1_row]
  rw [val_main_call1_v5_apply, hi, val_main_call1_v4_apply, val_main_call1_v1_apply, h2, val_main_call1_v0_apply, val_main_call1_c_apply]
  have hn : IntOp.cmpi .slt (BitVec.ofNat 32 (column x r ⟨j.val, by omega⟩).val) 0#32 = 0#1 := by
    refine eq_zero_of_ne_one fun h => ?_
    have h := ofBool_eq_one.mp h
    rw [BitVec.slt_iff_toInt_lt, toInt_word (Fin.isLt _)] at h
    rw [BitVec.toInt_zero] at h
    exact absurd h (not_lt.mpr (Int.natCast_nonneg _))
  rw [hn, select_zero]

/-- Every start index is in range, so the mask lets every element through. -/
theorem v12_row (x : S512x8192.Idx → EReal) (j : S512x16.Idx) : val_main_call1_v12 (F := Ideal) x j = 1#1 := by
  refine (reduce_andi _ _ _ _ (fun _ => rfl) j).mpr fun i _ => ?_
  obtain ⟨r, c, z, rfl⟩ : ∃ r c z, i = ix3 r c z := ⟨_, _, _, eq_ix3 i⟩
  rw [val_main_call1_v11_apply, val_main_call1_v7_apply, val_main_call1_v10_apply, v5_row, val_main_call1_v6_apply, val_main_call1_c_2_apply,
    val_main_call1_v9_apply, val_main_call1_v8_apply, val_main_call1_c_1_apply]
  have hk := (column x r ⟨c.val, by omega⟩).isLt
  have h1 : IntOp.cmpi .sge (BitVec.ofNat 32 (column x r ⟨c.val, by omega⟩).val) 0#32 = 1#1 :=
    ofBool_eq_one.mpr (by rw [BitVec.sle_iff_toInt_le, toInt_word hk, BitVec.toInt_zero]; exact Int.natCast_nonneg _)
  have h2 : IntOp.cmpi .sle (BitVec.ofNat 32 (column x r ⟨c.val, by omega⟩).val) 8191#32 = 1#1 :=
    ofBool_eq_one.mpr (by rw [BitVec.sle_iff_toInt_le, toInt_word hk, toInt_word (k := 8191) (by omega)]; omega)
  rw [h1, h2]
  rfl

/-- The lookup reads its row at the start index. -/
theorem lookup_apply (x : S512x8192.Idx → EReal) (w : IVec S512x16x1 32) (r : Fin 512) (j : Fin 16) {k : ℕ} (hk : k < 8192)
    (hw : w (ix3 r j 0) = BitVec.ofNat 32 k) :
    Host.gather gather_S512x8192_S512x16x1_S512x16_n_1_0_0_1_2_11 x w (ix2 r j) = x (ix2 r ⟨k, hk⟩) := by
  let D := gather_S512x8192_S512x16x1_S512x16_n_1_0_0_1_2_11
  refine congrArg x (funext fun a => Fin.ext ?_)
  show D.start (ix2 r j) w a + D.batchCoord (ix2 r j) a + D.offCoord (ix2 r j) a = _
  match a with
  | ⟨0, _⟩ =>
    rw [GatherDims.start_batching _ _ _ _ (List.mem_singleton.mpr rfl),
      GatherDims.offCoord_eq_zero _ _ _ fun h => ((GatherDims.mem_sKept _ _).mp h).2 (List.mem_singleton.mpr rfl)]
    unfold GatherDims.batchCoord
    rw [dif_pos (show (⟨0, Nat.two_pos⟩ : Fin 2) ∈ D.operandBatchingDims from List.mem_singleton.mpr rfl)]
    exact Nat.zero_add _
  | ⟨1, _⟩ =>
    rw [GatherDims.batchCoord_eq_zero _ _ _ fun h => by simp [D, gather_S512x8192_S512x16x1_S512x16_n_1_0_0_1_2_11] at h,
      GatherDims.offCoord_eq_zero _ _ _ fun h => ((GatherDims.mem_sKept _ _).mp h).1 (List.mem_singleton.mpr rfl)]
    unfold GatherDims.start
    rw [dif_pos (show (⟨1, Nat.one_lt_two⟩ : Fin 2) ∈ D.startIndexMap from List.mem_singleton.mpr rfl)]
    have hs : D.siIdx (ix2 r j) ⟨List.idxOf (⟨1, Nat.one_lt_two⟩ : Fin 2) D.startIndexMap, List.idxOf_lt_length_iff.2 (List.mem_singleton.mpr rfl)⟩
        = ix3 r j 0 := by
      funext b
      refine Fin.ext ?_
      match b with
      | ⟨0, _⟩ => rfl
      | ⟨1, _⟩ => rfl
      | ⟨2, _⟩ => rfl
    rw [hs, hw, toInt_word hk]
    show min ((k : ℤ).toNat) (8192 - 1) + 0 + 0 = k
    rw [Int.toNat_natCast]
    omega

/-- The reference's result: the j-th largest of each row. -/
theorem reference_row (x : S512x8192.Idx → EReal) (r : Fin 512) (j : Fin 16) :
    Nth (fun c : Fin 8192 => x (ix2 r c)) j (val_main_v3 (F := Ideal) x (ix2 r j)) := by
  rw [val_main_v3_apply, v12_row, select_one]
  unfold val_main_call1_v13
  rw [lookup_apply x _ r j (Fin.isLt _) (v5_row x r j 0)]
  rw [Fin.eta]
  exact nth_negated (fun c : Fin 8192 => x (ix2 r c)) (⟨j.val, by omega⟩ : Fin 8192) rfl

end Cert.TopK
-- ==== Proof.Value.lean ====
/-
# The kernel and the reference end with one array

A device and its partner hold the two halves of the reference's columns. Their merged list holds, row by row, the largest
values of both halves together, which are those of the reference's row: the order in which the halves come does not matter.
-/
module

public import proofs.«01_k».proof.Proof.Rows
public import proofs.«01_k».proof.Proof.Reference
public import proofs.«01_k».proof.Proof.Frames

@[expose] public section

noncomputable section

namespace Cert.TopK

open Cert.KernelIdeal Cert.KernelIdeal.Gen
open Idealize.ShloMosaic Idealize.ShloMosaic.ValueIdx
open Idealize.ShloMosaic.TcCoe
open Idealize.SL.Sem

/-! ## The halves -/

/-- The part of the columns a device holds. -/
def half (c : Dev nD) : ℕ := c.val / 16

theorem half_lt (c : Dev nD) : half c < 2 := by revert c; decide
theorem half_partner (c : Dev nD) : half (partner c) = 1 - half c := by revert c; decide
theorem half_mesh (c : Dev nD) : Layout.meshLin [2, 4, 4] c.val [0] = half c := by revert c; decide

/-- Two halves of `n` columns make `n + n`, half `p` first. -/
def halves (n p : ℕ) : Fin n ⊕ Fin n ≃ Fin (n + n) :=
  if p = 0 then finSumFinEquiv else (Equiv.sumComm _ _).trans finSumFinEquiv

/-- Where the columns of half `p` stand, -/
theorem halves_inl {n p : ℕ} (hp : p < 2) (i : Fin n) : (halves n p (.inl i)).val = p * n + i.val := by
  obtain rfl | rfl : p = 0 ∨ p = 1 := by omega
  · show i.val = 0 * n + i.val
    omega
  · show n + i.val = 1 * n + i.val
    omega

/-- and those of the other half. -/
theorem halves_inr {n p : ℕ} (hp : p < 2) (i : Fin n) : (halves n p (.inr i)).val = (1 - p) * n + i.val := by
  obtain rfl | rfl : p = 0 ∨ p = 1 := by omega
  · show n + i.val = (1 - 0) * n + i.val
    omega
  · show i.val = (1 - 1) * n + i.val
    omega

/-- The block of the reference's argument that device `c` holds. -/
def blockOf {α : Type} (X : (⟨2, ![512, 8192]⟩ : Shape).Idx → α) (c : Dev nD) : (⟨2, ![512, 4096]⟩ : Shape).Idx → α :=
  Layout.blockN ⟨2, ![512, 4096]⟩ ⟨2, ![512, 8192]⟩ (Layout.meshBlock [2, 4, 4] ![[], [0]] c) X

/-- An element of the block. -/
theorem blockOf_apply {α : Type} (X : (⟨2, ![512, 8192]⟩ : Shape).Idx → α) (c : Dev nD) (r : Fin 512) (i : Fin 4096) (k : Fin 8192)
    (hk : k.val = half c * 4096 + i.val) : blockOf X c (ix2 r i) = X (ix2 r k) := by
  unfold blockOf
  rw [Layout.blockN_apply]
  refine congrArg X (funext fun d => Fin.ext ?_)
  rw [Layout.TilesN.idx_val]
  match d with
  | ⟨0, _⟩ =>
    show 0 * 512 + r.val = r.val
    omega
  | ⟨1, _⟩ =>
    show Layout.meshLin [2, 4, 4] c.val [0] * 4096 + i.val = k.val
    rw [half_mesh, hk]

/-! ## The value -/

/-- Where a device's block and its partner's meet the precondition, the merged list is the reference's result. -/
theorem merged_eq_reference (X : (⟨2, ![512, 8192]⟩ : Shape).Idx → EReal) (c : Dev nD)
    (h : ∀ c, Cert.Pre_distinct_top_KernelIdeal.fn (F := Ideal) (blockOf X c) = fun _ => 1#1) :
    merged (F := Ideal) (localTop (F := Ideal) (blockOf X c)) (localTop (F := Ideal) (blockOf X (partner c)))
      = Cert.ReferenceIdeal.Read.val_main_v3 (F := Ideal) X := by
  have key (r : Fin 512) (j : Fin 16) : merged (F := Ideal) (localTop (F := Ideal) (blockOf X c)) (localTop (F := Ideal) (blockOf X (partner c))) (ix2 r j)
      = Cert.ReferenceIdeal.Read.val_main_v3 (F := Ideal) X (ix2 r j) := by
    have e : (fun k : Fin 8192 => X (ix2 r k)) ∘ halves 4096 (half c)
        = Sum.elim (fun i : Fin 4096 => blockOf X c (ix2 r i)) fun i : Fin 4096 => blockOf X (partner c) (ix2 r i) := by
      funext s
      match s with
      | .inl i => exact (blockOf_apply X c r i _ (halves_inl (half_lt c) i)).symm
      | .inr i => exact (blockOf_apply X (partner c) r i _ ((halves_inr (half_lt c) i).trans (by rw [half_partner]))).symm
    refine Nth.unique (Nth.congr (halves 4096 (half c)) ?_) (reference_row X r j)
    rw [e]
    exact merged_nth _ _ r (localTop_nth (blockOf X c) (h c) r) (localTop_nth (blockOf X (partner c)) (h (partner c)) r) j
  funext i
  rw [eq_ix2 i]
  exact key (i 0) (i 1)

/-- The kernel and the reference, at the extended reals, end with one array. -/
theorem algebraic : Cert.algebraic_KernelIdeal_ReferenceIdeal_pre_distinct_top_KernelIdeal := fun m g m' g' hpre hm => by
  have hb (c : Dev nD) : Cert.Pre_distinct_top_KernelIdeal.fn (F := Ideal)
      (blockOf (m' (((0 : Dev Cert.ReferenceIdeal.nD).tc : Thread Cert.ReferenceIdeal.nD Cert.ReferenceIdeal.τ).loc Cert.ReferenceIdeal.main_arg0)) c)
      = fun _ => 1#1 := (congrArg (Cert.Pre_distinct_top_KernelIdeal.fn (F := Ideal)) (hm c)).symm.trans (hpre c)
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨(h.1 c).1.trans ?_, (h.1 c).2⟩) (run_main (F := Ideal) m g)
    refine Eq.trans ?_ (merged_eq_reference _ c hb)
    exact congrArg₂ (fun a b => merged (F := Ideal) (localTop a) (localTop b)) (hm c) (hm (partner c))
  · exact (θ_run Cert.ReferenceIdeal.defs _ _).mono
      (fun r h => ⟨(h 0).1.trans (Cert.ReferenceIdeal.Read.val_main_v3_eq (F := Ideal) _), (h 0).2⟩)
      (Cert.ReferenceIdeal.Value.run (F := Ideal) m' g')

end Cert.TopK
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.TopK.pre_kernel_facts, Cert.TopK.pre_reference_facts,
  Cert.TopK.frame_kernel, Cert.TopK.frame_ideal, Cert.TopK.frame_ideal_pre, Cert.TopK.frame_reference, Cert.TopK.frame_reference_pre,
  trivial, Cert.TopK.algebraic⟩

end Cert.Proof

end
